-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S1024x2048 : Shape := ⟨2, ![1024, 2048]⟩
abbrev S4x1024x1024 : Shape := ⟨3, ![4, 1024, 1024]⟩
abbrev S4 : Shape := ⟨1, ![4]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 5
  | .vmem => 9
  | .smem => 2
  | _ => 0

abbrev bufTy : (tb : Table) → Fin (tcTables nBuf tb) → BufTy
  | .hbm, ⟨0, _⟩ => ⟨S4096x1024, .fp8e4m3⟩
  | .hbm, ⟨1, _⟩ => ⟨S1024x8192, .fp8e4m3⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S4096x1024, .fp8e4m3⟩
  | .local _ .vmem, ⟨1, _⟩ => ⟨S1024x2048, .fp8e4m3⟩
  | .local _ .vmem, ⟨2, _⟩ => ⟨S1024x2048, .fp8e4m3⟩
  | .local _ .vmem, ⟨3, _⟩ => ⟨S1024x2048, .f32⟩
  | .local _ .vmem, ⟨4, _⟩ => ⟨S1024x2048, .f32⟩
  | .local _ .vmem, ⟨5, _⟩ => ⟨S4x1024x1024, .fp8e4m3⟩
  | .local _ .vmem, ⟨6, _⟩ => ⟨S4x1024x1024, .fp8e4m3⟩
  | .local _ .vmem, ⟨7, _⟩ => ⟨S4x1024x1024, .fp8e4m3⟩
  | .local _ .vmem, ⟨8, _⟩ => ⟨S1024x2048, .f32⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev barrier0 : Sem sig := 0

abbrev nD : Nat := 4
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_6 : BitVec 32 := 0#32
  let v12 : BitVec 1 := Scalar.cmpi .ne v11 c0_i32_6
  v12

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_14 : BitVec 32 := 1#32
  let v23 : BitVec 32 := Scalar.muli v5 c1_i32_14
  let v24 : BitVec 32 := Scalar.addi c0_i32_15 v23
  v24.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_17 : BitVec 32 := 1#32
  let v25 : BitVec 32 := Scalar.muli v7 c1_i32_17
  let v26 : BitVec 32 := Scalar.addi c0_i32_18 v25
  v26.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_20 : BitVec 32 := 1#32
  let v27 : BitVec 32 := Scalar.muli v9 c1_i32_20
  let v28 : BitVec 32 := Scalar.addi c0_i32_21 v27
  v28.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v29 : BitVec 32 := Scalar.muli v2 c1024_i32
  let v30 : Index := Scalar.indexCast v29
  let c0 : Index := 0#32
  ![v30.toNat, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : Index := Scalar.indexCast v2
  let c0_22 : Index := 0#32
  let c0_23 : Index := 0#32
  ![v33.toNat, 0, 0]
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  ![v5.toNat]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_27 : BitVec 32 := 0#32
  let c0_i32_28 : BitVec 32 := 0#32
  ![v2.toNat, 0, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_24 : BitVec 32 := 1024#32
  let v37 : BitVec 32 := Scalar.muli v5 c1024_i32_24
  let c0_i32_29 : BitVec 32 := 0#32
  ![v37.toNat, 0]
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_25 : BitVec 32 := 1#32
  let v38 : BitVec 32 := Scalar.muli v5 c1_i32_25
  let v39 : BitVec 32 := Scalar.addi c0_i32_26 v38
  v39.toNat
def k0_off7 (d0 : Dev nD) (c1_i32_3 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  ![v7.toNat]
def k0_off8 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1024_i32_30 : BitVec 32 := 1024#32
  let v47 : BitVec 32 := Scalar.muli v7 c1024_i32_30
  let c0_i32_35 : BitVec 32 := 0#32
  ![v47.toNat, 0]
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_31 : BitVec 32 := 1#32
  let v48 : BitVec 32 := Scalar.muli v7 c1_i32_31
  let v49 : BitVec 32 := Scalar.addi c0_i32_32 v48
  v49.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_37 : BitVec 32 := 1#32
  let v58 : BitVec 32 := Scalar.muli v9 c1_i32_37
  let v59 : BitVec 32 := Scalar.addi c0_i32_38 v58
  v59.toNat
def k0_cond2 (i : grid0.Coords) : BitVec 1 :=
  let arg0 : BitVec 32 := BitVec.ofNat 32 (i 0).val
  let c4_i32_7 : BitVec 32 := 4#32
  let v13 : BitVec 1 := Scalar.cmpi .slt arg0 c4_i32_7
  let v14 : BitVec 32 := Scalar.extui v13
  let c0_i32_8 : BitVec 32 := 0#32
  let v15 : BitVec 1 := Scalar.cmpi .ne v14 c0_i32_8
  v15

def k0_off9 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_15 : BitVec 32 := 0#32
  let c0_i32_16 : BitVec 32 := 0#32
  ![v2.toNat, 0, 0]
def k0_dev7 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_13 : BitVec 32 := 1#32
  let v22 : BitVec 32 := Scalar.muli v7 c1_i32_13
  let v23 : BitVec 32 := Scalar.addi c0_i32_14 v22
  v23.toNat
def k0_dev8 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_19 : BitVec 32 := 1#32
  let v31 : BitVec 32 := Scalar.muli v5 c1_i32_19
  let v32 : BitVec 32 := Scalar.addi c0_i32_20 v31
  v32.toNat
def k0_cond3 (i : grid0.Coords) : BitVec 1 :=
  let arg0 : BitVec 32 := BitVec.ofNat 32 (i 0).val
  let c0_i32_9 : BitVec 32 := 0#32
  let v16 : BitVec 1 := Scalar.cmpi .sgt arg0 c0_i32_9
  let v17 : BitVec 32 := Scalar.extui v16
  let c0_i32_10 : BitVec 32 := 0#32
  let v18 : BitVec 1 := Scalar.cmpi .ne v17 c0_i32_10
  v18

def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let v26 : Index := Scalar.indexCast v7
  let c0_16 : Index := 0#32
  let c0_17 : Index := 0#32
  ![v26.toNat, 0, 0]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v38 : Index := Scalar.indexCast v5
  let c0_23 : Index := 0#32
  let c0_24 : Index := 0#32
  ![v38.toNat, 0, 0]
def k0_cond4 (i : grid0.Coords) : BitVec 1 :=
  let arg0 : BitVec 32 := BitVec.ofNat 32 (i 0).val
  let c4_i32_11 : BitVec 32 := 4#32
  let v19 : BitVec 1 := Scalar.cmpi .slt arg0 c4_i32_11
  let v20 : BitVec 32 := Scalar.extui v19
  let c0_i32_12 : BitVec 32 := 0#32
  let v21 : BitVec 1 := Scalar.cmpi .ne v20 c0_i32_12
  v21

def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v22 : Index := Scalar.indexCast v2
  let c0 : Index := 0#32
  let c0_13 : Index := 0#32
  ![v22.toNat, 0, 0]
def k0_off14 (d0 : Dev nD) (c0_i32_24 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v40 : BitVec 32 := Scalar.addi v2 c8_i32
  let v41 : BitVec 32 := Scalar.subi v40 c0_i32_24
  let c1_i32_25 : BitVec 32 := 1#32
  let v42 : BitVec 32 := Scalar.subi v41 c1_i32_25
  let c4_i32_26 : BitVec 32 := 4#32
  let v43 : BitVec 32 := Scalar.remsi v42 c4_i32_26
  ![v43.toNat]
def k0_off15 (d0 : Dev nD) (c0_i32_24 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v40 : BitVec 32 := Scalar.addi v2 c8_i32
  let v41 : BitVec 32 := Scalar.subi v40 c0_i32_24
  let c1_i32_25 : BitVec 32 := 1#32
  let v42 : BitVec 32 := Scalar.subi v41 c1_i32_25
  let c4_i32_26 : BitVec 32 := 4#32
  let v43 : BitVec 32 := Scalar.remsi v42 c4_i32_26
  let c0_i32_32 : BitVec 32 := 0#32
  let c0_i32_33 : BitVec 32 := 0#32
  ![v43.toNat, 0, 0]
def k0_off16 (d0 : Dev nD) (c0_i32_27 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c0_i32_27
  let c1_i32_28 : BitVec 32 := 1#32
  let v45 : BitVec 32 := Scalar.addi v44 c1_i32_28
  let c4_i32_29 : BitVec 32 := 4#32
  let v46 : BitVec 32 := Scalar.remsi v45 c4_i32_29
  ![v46.toNat]
def k0_off17 (d0 : Dev nD) (c0_i32_27 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c0_i32_27
  let c1_i32_28 : BitVec 32 := 1#32
  let v45 : BitVec 32 := Scalar.addi v44 c1_i32_28
  let c4_i32_29 : BitVec 32 := 4#32
  let v46 : BitVec 32 := Scalar.remsi v45 c4_i32_29
  let c0_i32_38 : BitVec 32 := 0#32
  let c0_i32_39 : BitVec 32 := 0#32
  ![v46.toNat, 0, 0]
def k0_off18 (d0 : Dev nD) (c1_i32_43 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_42 : BitVec 32 := 4#32
  let v63 : BitVec 32 := Scalar.addi v2 c4_i32_42
  let v64 : BitVec 32 := Scalar.subi v63 c1_i32_43
  let c4_i32_44 : BitVec 32 := 4#32
  let v65 : BitVec 32 := Scalar.remsi v64 c4_i32_44
  ![v65.toNat]
def k0_off19 (d0 : Dev nD) (c1_i32_43 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_42 : BitVec 32 := 4#32
  let v63 : BitVec 32 := Scalar.addi v2 c4_i32_42
  let v64 : BitVec 32 := Scalar.subi v63 c1_i32_43
  let c4_i32_44 : BitVec 32 := 4#32
  let v65 : BitVec 32 := Scalar.remsi v64 c4_i32_44
  let c0_i32_56 : BitVec 32 := 0#32
  let c0_i32_57 : BitVec 32 := 0#32
  ![v65.toNat, 0, 0]
def k0_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_54 : BitVec 32 := 1#32
  let v75 : BitVec 32 := Scalar.muli v7 c1_i32_54
  let v76 : BitVec 32 := Scalar.addi c0_i32_55 v75
  v76.toNat
def k0_off20 (d0 : Dev nD) (c1_i32_45 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : BitVec 32 := Scalar.addi v2 c1_i32_45
  let c4_i32_46 : BitVec 32 := 4#32
  let v67 : BitVec 32 := Scalar.remsi v66 c4_i32_46
  ![v67.toNat]
def k0_off21 (d0 : Dev nD) (c1_i32_45 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : BitVec 32 := Scalar.addi v2 c1_i32_45
  let c4_i32_46 : BitVec 32 := 4#32
  let v67 : BitVec 32 := Scalar.remsi v66 c4_i32_46
  let c0_i32_62 : BitVec 32 := 0#32
  let c0_i32_63 : BitVec 32 := 0#32
  ![v67.toNat, 0, 0]
def k0_dev10 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_60 : BitVec 32 := 1#32
  let v85 : BitVec 32 := Scalar.muli v5 c1_i32_60
  let v86 : BitVec 32 := Scalar.addi c0_i32_61 v85
  v86.toNat
def k0_cond5 (i : grid0.Coords) : BitVec 1 :=
  let arg0 : BitVec 32 := BitVec.ofNat 32 (i 0).val
  let c0_i32_66 : BitVec 32 := 0#32
  let v95 : BitVec 1 := Scalar.cmpi .eq arg0 c0_i32_66
  let v96 : BitVec 32 := Scalar.extui v95
  let c0_i32_67 : BitVec 32 := 0#32
  let v97 : BitVec 1 := Scalar.cmpi .ne v96 c0_i32_67
  v97

def k0_off22 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  ![v5.toNat]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_197 : BitVec 32 := 0#32
  let c0_i32_198 : BitVec 32 := 0#32
  ![v5.toNat, 0, 0]
def k0_off24 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  ![v7.toNat]
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c0_i32_203 : BitVec 32 := 0#32
  let c0_i32_204 : BitVec 32 := 0#32
  ![v7.toNat, 0, 0]
def k0_off26 (d0 : Dev nD) (c1_i32_69 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_68 : BitVec 32 := 8#32
  let v98 : BitVec 32 := Scalar.addi v2 c8_i32_68
  let v99 : BitVec 32 := Scalar.subi v98 c1_i32_69
  let c4_i32_70 : BitVec 32 := 4#32
  let v100 : BitVec 32 := Scalar.remsi v99 c4_i32_70
  let v104 : Index := Scalar.indexCast v100
  let c0_75 : Index := 0#32
  let c0_76 : Index := 0#32
  ![v104.toNat, 0, 0]
def k0_off27 (d0 : Dev nD) (c1_i32_71 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v101 : BitVec 32 := Scalar.addi v2 c1_i32_71
  let c4_i32_72 : BitVec 32 := 4#32
  let v102 : BitVec 32 := Scalar.remsi v101 c4_i32_72
  let v116 : Index := Scalar.indexCast v102
  let c0_84 : Index := 0#32
  let c0_85 : Index := 0#32
  ![v116.toNat, 0, 0]
def k0_dev11 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_125 : BitVec 32 := 1#32
  let v167 : BitVec 32 := Scalar.muli v7 c1_i32_125
  let v168 : BitVec 32 := Scalar.addi c0_i32_126 v167
  v168.toNat
def k0_dev12 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_131 : BitVec 32 := 1#32
  let v177 : BitVec 32 := Scalar.muli v5 c1_i32_131
  let v178 : BitVec 32 := Scalar.addi c0_i32_132 v177
  v178.toNat
def k0_cond6 (i : grid0.Coords) : BitVec 1 :=
  let arg0 : BitVec 32 := BitVec.ofNat 32 (i 0).val
  let c0_i32_137 : BitVec 32 := 0#32
  let v187 : BitVec 1 := Scalar.cmpi .eq arg0 c0_i32_137
  let v188 : BitVec 32 := Scalar.extui v187
  let c0_i32_138 : BitVec 32 := 0#32
  let v189 : BitVec 1 := Scalar.cmpi .ne v188 c0_i32_138
  v189

def k0_off28 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  ![v9.toNat]
def k0_off29 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c0_i32_197 : BitVec 32 := 0#32
  let c0_i32_198 : BitVec 32 := 0#32
  ![v9.toNat, 0, 0]
def k0_off30 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_187 : BitVec 32 := 0#32
  let c0_i32_188 : BitVec 32 := 0#32
  ![v2.toNat, 0, 0]
def k0_cond7 (i : grid0.Coords) : BitVec 1 :=
  let arg0 : BitVec 32 := BitVec.ofNat 32 (i 0).val
  let c0_i32_193 : BitVec 32 := 0#32
  let v257 : BitVec 1 := Scalar.cmpi .eq arg0 c0_i32_193
  let v258 : BitVec 32 := Scalar.extui v257
  let c0_i32_194 : BitVec 32 := 0#32
  let v259 : BitVec 1 := Scalar.cmpi .ne v258 c0_i32_194
  v259

def k0_off32 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  ![v5.toNat]
def k0_off33 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_196 : BitVec 32 := 0#32
  let c0_i32_197 : BitVec 32 := 0#32
  ![v5.toNat, 0, 0]
def k0_off34 (d0 : Dev nD) (c1_i32_3 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  ![v7.toNat]
def k0_off35 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_201 : BitVec 32 := 0#32
  let c0_i32_202 : BitVec 32 := 0#32
  ![v7.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdealBase.lean ====
/-
# The ring, the memrefs, and one rule per kind of effect

Devices `0 … 3` sit on a ring. Everything a device holds of a buffer is held as a slice of the buffer's
whole memref, owned at contents given on the slice's own shape. The rules at the end take the printed
offsets, devices and semaphores with equations to the closed ones.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the kernel's own rounds cells: duties are named by `Fin 3`. -/
abbrev UB : Type := URounds (GSem nD τ sig) (Fin 3)
/-- The pipeline's staging cells beside the kernel's own. -/
abbrev UU : Type := UR sig nD τ × UB

local notation "𝕄" => MT nD τ sig ℕ (Elt F) ℕ UU ℕ

/-- The pipeline's cells inside the model. -/
abbrev EP : Emb (UR sig nD τ) (MT nD τ sig ℕ (Elt F) ℕ UU ℕ) := embL
/-- The kernel's own cells inside the model. -/
abbrev ER : Emb UB (MT nD τ sig ℕ (Elt F) ℕ UU ℕ) := embR

/-- No label of this program is recursive. -/
abbrev 𝒱₀ : Variants := Variants.none

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩
set_option backward.proofsInPublic true in
/-- The device across the ring. -/
def opp (c : Dev nD) : Dev nD := ⟨(c.val + 2) % 4, Nat.mod_lt _ (by decide)⟩
/-- Left of right is home. -/
theorem prv_nxt (c : Dev nD) : prv (nxt c) = c := by revert c; decide
/-- Right of left is home. -/
theorem nxt_prv (c : Dev nD) : nxt (prv c) = c := by revert c; decide
/-- Across twice is home. -/
theorem opp_opp (c : Dev nD) : opp (opp c) = c := by revert c; decide
/-- Two steps right are across. -/
theorem nxt_nxt (c : Dev nD) : nxt (nxt c) = opp c := by revert c; decide
/-- Two steps left are across. -/
theorem prv_prv (c : Dev nD) : prv (prv c) = opp c := by revert c; decide
/-- Right of across is left. -/
theorem nxt_opp (c : Dev nD) : nxt (opp c) = prv c := by revert c; decide
/-- Left of across is right. -/
theorem prv_opp (c : Dev nD) : prv (opp c) = nxt c := by revert c; decide
/-- Across from right is left. -/
theorem opp_nxt (c : Dev nD) : opp (nxt c) = prv c := by revert c; decide
/-- Across from left is right. -/
theorem opp_prv (c : Dev nD) : opp (prv c) = nxt c := by revert c; decide
/-- The four places seen from `c`, all distinct. -/
theorem place_cases (c o : Dev nD) : o = c ∨ o = nxt c ∨ o = opp c ∨ o = prv c := by revert c o; decide

/-! ## Memrefs, rectangles, semaphores -/

/-- A slot of a four-slot buffer. -/
abbrev slotRect (o : Dev nD) : Rect S4x1024x1024 :=
  Rect.unit (s := S4x1024x1024) ![o.val, 0, 0] S1x1024x1024.size (by revert o; decide)
/-- A block of 1024 rows of the activations. -/
abbrev rowRect (o : Dev nD) : Rect S4096x1024 :=
  Rect.unit (s := S4096x1024) ![1024 * o.val, 0] S1024x1024.size (by revert o; decide)
/-- The left half of a tile. -/
abbrev rectL : Rect S1024x2048 := Rect.unit (s := S1024x2048) ![0, 0] S1024x1024.size inb_S1024x2048_S1024x1024_0_0
/-- The right half of a tile. -/
abbrev rectR : Rect S1024x2048 := Rect.unit (s := S1024x2048) ![0, 1024] S1024x1024.size inb_S1024x2048_S1024x1024_0_1024

/-- The gathered activations. -/
abbrev xM : Memref sig .tc .vmem S4x1024x1024 .fp8e4m3 := Memref.whole cc0_scratch0
/-- The left tile halves going right. -/
abbrev rM : Memref sig .tc .vmem S4x1024x1024 .fp8e4m3 := Memref.whole cc0_scratch1
/-- The right tile halves going left. -/
abbrev lM : Memref sig .tc .vmem S4x1024x1024 .fp8e4m3 := Memref.whole cc0_scratch2
/-- The accumulator. -/
abbrev aM : Memref sig .tc .vmem S1024x2048 .f32 := Memref.whole cc0_scratch3
/-- The staged activations. -/
abbrev xS : Memref sig .tc .vmem S4096x1024 .fp8e4m3 := Memref.whole cc0_stg0_0
/-- The staged weight tile. -/
abbrev wS (s : Fin 2) : Memref sig .tc .vmem S1024x2048 .fp8e4m3 := stage0_1 s
/-- The staged result tile. -/
abbrev oS (s : Fin 2) : Memref sig .tc .vmem S1024x2048 .f32 := stage0_4 s

/-- A slot as a memref of its own. -/
abbrev slot (M : Memref sig .tc .vmem S4x1024x1024 .fp8e4m3) (o : Dev nD) : Memref sig .tc .vmem S1x1024x1024 .fp8e4m3 :=
  M.slice (slotRect o) (fun _ => rfl)
/-- The slot without its leading unit axis: what the copies name. -/
abbrev slotSq (M : Memref sig .tc .vmem S4x1024x1024 .fp8e4m3) (o : Dev nD) : Memref sig .tc .vmem S1024x1024 .fp8e4m3 :=
  (slot M o).squeeze S1024x1024 squeezes_S1x1024x1024_S1024x1024

/-- Contents of a slot's two axes read on the slot's three. -/
def unsq {α : Type} (w : S1024x1024.Idx → α) : S1x1024x1024.Idx → α :=
  fun i => w ((Shape.reshapeEquiv squeezes_S1x1024x1024_S1024x1024.numel_eq).symm i)

/-- The kernel's DMA semaphores: six arrays of four, from number 7. -/
def dsem (k : Fin 6) (o : Dev nD) : DmaSem sig := ⟨7 + 4 * k.val + o.val, by revert k o; decide⟩
/-- Number `j` of the kernel's own semaphores: the barrier's at `0`, then the arrays. -/
abbrev barS : SemLoc sig := .reg barrier0

/-- The array of the printed operand: the six in order. -/
abbrev semArr : Fin 6 → DmaSems sig S4 := fun
  | 0 => cc0_scratch4 | 1 => cc0_scratch5 | 2 => cc0_scratch6 | 3 => cc0_scratch7 | 4 => cc0_scratch8 | 5 => cc0_scratch9

/-- A semaphore reached by slicing its array. -/
theorem sem_eq (k : Fin 6) {off : Fin 1 → ℕ} (o : Dev nD) (hoff : off = ![o.val]) (h : ∀ a, off a + S1.size a ≤ S4.size a)
    (hq : S1.Squeezes S_) :
    (((semArr k).slice (Rect.unit (s := S4) off S1.size h)).squeeze S_ hq).sem = dsem k o := by
  subst hoff
  have hx (x : S1.Idx) : (S4.rowMajor ((Rect.unit (s := S4) ![o.val] S1.size h).emb x)).val = o.val := by
    have h0 : ((Rect.unit (s := S4) ![o.val] S1.size h).emb x 0).val = o.val + 1 * (x 0).val := rfl
    have h1 : (x 0).val = 0 := Nat.lt_one_iff.mp (x 0).isLt
    rw [Shape.rowMajor_val_one, h0, h1]; omega
  apply Fin.ext
  fin_cases k <;> exact congrArg (_ + ·) (hx _)

/-- A slot reached at printed offsets. -/
theorem slot_eq (M : Memref sig .tc .vmem S4x1024x1024 .fp8e4m3) {off : Fin 3 → ℕ} (o : Dev nD) (hoff : off = ![o.val, 0, 0])
    (h : ∀ a, off a + S1x1024x1024.size a ≤ S4x1024x1024.size a) (hs) (hq : S1x1024x1024.Squeezes S1024x1024) :
    (M.slice (Rect.unit (s := S4x1024x1024) off S1x1024x1024.size h) hs).squeeze S1024x1024 hq = slotSq M o := by
  subst hoff; rfl

/-- A row block reached at printed offsets. -/
theorem row_eq {off : Fin 2 → ℕ} (o : Dev nD) (hoff : off = ![1024 * o.val, 0])
    (h : ∀ a, off a + S1024x1024.size a ≤ S4096x1024.size a) (hs) :
    (xS.slice (Rect.unit (s := S4096x1024) off S1024x1024.size h) hs) = xS.slice (rowRect o) (fun _ => rfl) := by
  subst hoff; rfl

/-- The credit of one copy. -/
abbrev N : ℕ := (slotSq rM 0).view.dmaCredit
/-- It is positive. -/
theorem N_pos : 0 < N := View.dmaCredit_pos _ (by decide)
/-- All the slots' copies have it. -/
theorem credit_slot (M : Memref sig .tc .vmem S4x1024x1024 .fp8e4m3) (o : Dev nD) : (slotSq M o).view.dmaCredit = N := rfl
/-- And so has any memref of the shape. -/
theorem credit_any (M : Memref sig .tc .vmem S1024x1024 .fp8e4m3) : M.view.dmaCredit = N := rfl

/-! ## Ownership of slices -/

/-- A slot's squeezed memref owned at two-axis contents is the slot owned at them read on three. -/
theorem owns_squeeze (c : Dev nD) (M : Memref sig .tc .vmem S4x1024x1024 .fp8e4m3) (o : Dev nD) (q : PosShare TreeShare)
    (w : S1024x1024.Idx → Elt F .fp8e4m3) :
    (ownsTc c (slotSq M o) q w : sProp 𝕄) = ownsTc c (slot M o) q (unsq w) := by
  have hread (f : M.view.ty.Contents (Elt F)) : (slotSq M o).view.read (Elt F) f
      = fun j => (slot M o).view.read (Elt F) f (Shape.reshapeEquiv squeezes_S1x1024x1024_S1024x1024.numel_eq j) := rfl
  have h₁ : (ownsTc c (slotSq M o) q w : sProp 𝕄) ⊢ ownsTc c (slot M o) q (unsq w) := by
    unfold ownsTc owns
    iintro ⟨%f, %hf, H⟩
    iexists f
    isplitr
    · ipureintro
      rw [← hf, hread]; funext i; unfold unsq
      beta_reduce
      rw [Equiv.apply_symm_apply]
    · rw [show (slotSq M o).view.set = (slot M o).view.set from View.set_reshape _ _]; iexact H
  have h₂ : (ownsTc c (slot M o) q (unsq w) : sProp 𝕄) ⊢ ownsTc c (slotSq M o) q w := by
    unfold ownsTc owns
    iintro ⟨%f, %hf, H⟩
    iexists f
    isplitr
    · ipureintro
      rw [hread, hf]; funext i; unfold unsq
      rw [Equiv.symm_apply_apply]
    · rw [show (slotSq M o).view.set = (slot M o).view.set from View.set_reshape _ _]; iexact H
  exact BI.equiv_iff.mp ⟨h₁, h₂⟩

section Rules

/-- A load through a rectangle whose slice the device owns reads the slice's contents. -/
theorem ld {α : Type} {Q : α → sProp 𝕄} (c : Dev nD) {cs : CoreSpace} {s : Shape} {e : EltTy} {M : Memref sig .tc cs s e} {off size : Fin s.rank → ℕ}
    {h : ∀ a, off a + size a ≤ s.size a} (off₀ : Fin s.rank → ℕ) (hoff : off = off₀) (h₀ : ∀ a, off₀ a + size a ≤ s.size a)
    {hl : M.view.LoadsAt (Rect.unit off size h).toLoadRect} {q : PosShare TreeShare} {X : (Rect.unit off₀ size h₀).shape.Idx → Elt F e}
    {k : ((Rect.unit off size h).toLoadRect.shape.Idx → Elt F e) → Prog (TpuEff nD τ sig (Elt F) Λ₀ .tc) α} :
    (ownsTc c (M.slice (Rect.unit off₀ size h₀) (fun _ => rfl)) q X : sProp 𝕄)
      ⊢ iprop((ownsTc c (M.slice (Rect.unit off₀ size h₀) (fun _ => rfl)) q X
            -∗ wp frame (wpE (defs₀ (F := F)) 𝒱₀ (c : Thread nD τ) none) Set.univ (k X) Q)
          -∗ wp frame (wpE (defs₀ (F := F)) 𝒱₀ (c : Thread nD τ) none) Set.univ (.op (.load M (Rect.unit off size h).toLoadRect hl) k) Q) := by
  subst hoff
  unfold ownsTc owns
  iintro ⟨%f, %hf, H⟩ Hk
  subst hf
  iapply (wp_load_rect 𝒱₀ (c : Thread nD τ) none Set.univ (m := M) (r := Rect.unit off size h) (S := (M.access (Rect.unit off size h)).set)
    (Finset.Subset.refl _)) $$ H
  iintro H
  iapply Hk
  iexists f
  isplitr; · ipureintro; rfl
  iexact H

/-- An unmasked store through a rectangle whose slice the device owns leaves the payload there. -/
theorem st {α : Type} {Q : α → sProp 𝕄} (c : Dev nD) {cs : CoreSpace} {s : Shape} {e : EltTy} {M : Memref sig .tc cs s e} {off size : Fin s.rank → ℕ}
    {h : ∀ a, off a + size a ≤ s.size a} (off₀ : Fin s.rank → ℕ) (hoff : off = off₀) (h₀ : ∀ a, off₀ a + size a ≤ s.size a)
    {w : (Rect.unit off size h).shape.Idx → Elt F e} {hx : (M.access (Rect.unit off size h)).Stores Finset.univ}
    {hm : (Finset.univ : Finset (Rect.unit off size h).shape.Idx) = Finset.univ ∨ ∀ a, (Rect.unit off size h).stride a = 1}
    {X : (Rect.unit off₀ size h₀).shape.Idx → Elt F e}
    {k : PUnit → Prog (TpuEff nD τ sig (Elt F) Λ₀ .tc) α} :
    (ownsTc c (M.slice (Rect.unit off₀ size h₀) (fun _ => rfl)) fullShare X : sProp 𝕄)
      ⊢ iprop((ownsTc c (M.slice (Rect.unit off₀ size h₀) (fun _ => rfl)) fullShare w
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit off size h) w Finset.univ hx hm) k) Q) := by
  subst hoff
  unfold ownsTc owns
  iintro ⟨%f, %hf, H⟩ Hk
  iapply (wp_store 𝒱₀ (c : Thread nD τ) none Set.univ (m := M) (r := Rect.unit off size h) (Mk := Finset.univ)
    (S := (M.access (Rect.unit off size h)).set) (by rw [View.setOn_univ])) $$ H
  iintro H
  iapply Hk
  iexists _
  isplitr
  rotate_left
  · iexact H
  ipureintro
  exact View.read_write_univ _ _

/-- One element of a scalar buffer. -/
theorem ldS {α : Type} {Q : α → sProp 𝕄} (c : Dev nD) {M : Memref sig .tc .smem S1 .f32} {hw : (M.access (Rect.unit (s := S1) ![0] S1.size inb_S1_S1_0)).Loads}
    {X : S1.Idx → Elt F .f32} {q : PosShare TreeShare} {x : (Rect.unit (s := S1) ![0] S1.size inb_S1_S1_0).shape.Idx}
    {k : Elt F .f32 → Prog (TpuEff nD τ sig (Elt F) Λ₀ .tc) α} :
    (ownsTc c M q X : sProp 𝕄)
      ⊢ iprop((ownsTc c M q X -∗ wp frame (wpE (defs₀ (F := F)) 𝒱₀ (c : Thread nD τ) none) Set.univ (k (X ((Rect.unit (s := S1) ![0] S1.size inb_S1_S1_0).emb x))) Q)
          -∗ wp frame (wpE (defs₀ (F := F)) 𝒱₀ (c : Thread nD τ) none) Set.univ
              (smemLoadElt M (Rect.unit (s := S1) ![0] S1.size inb_S1_S1_0) hw x k) Q) := by
  unfold ownsTc owns
  iintro ⟨%f, %hf, H⟩ Hk
  subst hf
  iapply (wp_smemLoadElt 𝒱₀ (c : Thread nD τ) none Set.univ (m := M) (r := Rect.unit (s := S1) ![0] S1.size inb_S1_S1_0) (S := M.view.set) (q := q) (f := f)
    (M.view.set_slice_subset _)) $$ H
  iintro H
  iapply Hk
  iexists f
  isplitr; · ipureintro; rfl
  iexact H

/-- A remote copy, in owned memrefs: the source's share makes the send cell's payload, the destination at the
    source's contents with `G` the receive cell's. -/
theorem send {α : Type} {Q : α → sProp 𝕄} (Rd : Rounds.Schedule (GSem nD τ sig) (Fin 3) 𝕄) (c d : Dev nD) {d' : Dev nD} (hd : d' = d) {sp sp' : Space} {e : EltTy}
    {src : Memref sig .tc sp S1024x1024 e} (src₀ : Memref sig .tc sp S1024x1024 e) (hsrc₀ : src = src₀)
    {dst : Memref sig .tc sp' S1024x1024 e} (dst₀ : Memref sig .tc sp' S1024x1024 e) (hdst₀ : dst = dst₀)
    {sS sD : DmaSem sig} (sS₀ sD₀ : DmaSem sig) (hsS : sS = sS₀) (hsD : sD = sD₀)
    {hsc : (show Memref sig (Dev.tc d' : Thread nD τ).2.kind sp' S1024x1024 e from dst).view.ref.isScScratch = false}
    {hsrc : src.view.WordExact} {hdst : dst.view.WordExact}
    {hsem : DmaTarget.Typed sp (.dma sD) (.remote (Dev.tc d' : Thread nD τ) (show Memref sig (Dev.tc d' : Thread nD τ).2.kind sp' S1024x1024 e from dst) (.dma sS) hsc)}
    {k : PUnit → Prog (TpuEff nD τ sig (Elt F) Λ₀ .tc) α}
    (κ₁ κ₂ : ℕ) (r : ℕ) (n : ℕ) (hn : dst₀.view.dmaCredit = n)
    (hd₁ : (0 : Fin 3) ∈ Rd.duties ((c : Thread nD τ), .dma sS₀) r) (hd₂ : (0 : Fin 3) ∈ Rd.duties ((d : Thread nD τ), .dma sD₀) r)
    (hk₁ : Rd.amount ((c : Thread nD τ), .dma sS₀) r 0 = n) (hk₂ : Rd.amount ((d : Thread nD τ), .dma sD₀) r 0 = n)
    {O₀ : CellTallies nD τ sig ℕ} (O : CellTallies nD τ sig ℕ) (hO : O₀ = O + tallyAt ((d : Thread nD τ), .dma sD₀) r n)
    {W : Waits sig ℕ} {q : PosShare TreeShare} {X Y : S1024x1024.Idx → Elt F e} {G : sProp 𝕄}
    (hpay₁ : (ownsTc c src₀ q X : sProp 𝕄) ⊢ Rd.payload ((c : Thread nD τ), .dma sS₀) r 0)
    (hpay₂ : iprop(ownsTc d dst₀ fullShare X ∗ G) ⊢ Rd.payload ((d : Thread nD τ), .dma sD₀) r 0) :
    iprop(cellInv ER Rd κ₁ ((c : Thread nD τ), .dma sS₀) ∗ cellInv ER Rd κ₂ ((d : Thread nD τ), .dma sD₀)
        ∗ ownsTc c src₀ q X ∗ (ownsTc d dst₀ fullShare Y ∗ G) ∗ owes (c : Thread nD τ) O₀ W
        ∗ dutyTok ER ((c : Thread nD τ), .dma sS₀) r 0 ∗ reached ER ((c : Thread nD τ), .dma sS₀) r
        ∗ dutyTok ER ((d : Thread nD τ), .dma sD₀) r 0 ∗ reached ER ((d : Thread nD τ), .dma sD₀) r)
      ⊢ iprop(((cred (tallyAt ((c : Thread nD τ), .dma sS₀) r n) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d' : Thread nD τ) dst (.dma sS) hsc) (.dma sD) hsrc hdst hsem) k) Q) := by
  subst hd hsrc₀ hdst₀ hsS hsD
  unfold ownsTc owns
  iintro ⟨HI1, HI2, ⟨%fs, %hfs, Hs⟩, ⟨⟨%fd, %hfd, Hd⟩, HG⟩, HO, Ht1, Hr1, Ht2, Hr2⟩ Hk
  have hp1 : (src.view.loc (c : Thread nD τ) ↦[src.view.set]{q} fs : sProp 𝕄) ⊢ Rd.payload ((c : Thread nD τ), .dma sS) r 0 := by
    have h := owns_intro (Ix := ℕ) (Name := ℕ) (U := UU) (Lvl := ℕ) (Val := Elt F) (c : Thread nD τ) src q fs
    rw [hfs] at h
    exact h.trans hpay₁
  have hp2 : iprop((dst.view.loc (Dev.tc d' : Thread nD τ) ↦[dst.view.set]{fullShare} (dst.view.write (Elt F) fd (src.view.read (Elt F) fs) Finset.univ)) ∗ G)
      ⊢ (Rd.payload ((d' : Thread nD τ), .dma sD) r 0 : sProp 𝕄) := by
    have h := owns_intro (Ix := ℕ) (Name := ℕ) (U := UU) (Lvl := ℕ) (Val := Elt F) (Dev.tc d' : Thread nD τ) dst fullShare
      (dst.view.write (Elt F) fd (src.view.read (Elt F) fs) Finset.univ)
    rw [View.read_write_univ] at h
    rw [hfs] at h ⊢
    exact (sep_mono_left h).trans hpay₂
  iapply (Rounds.wp_send_pointsTo_with 𝒱₀ ER Rd (c : Thread nD τ) none (κ₁ := κ₁) (κ₂ := κ₂) (r₁ := r) (r₂ := r) (c' := Dev.tc d')
    (d₁ := 0) (d₂ := 0) (src := src) (dst := dst) (fs := fs) (fd := fd) (q := q) (F := G) hd₁ hd₂ r r n hn hk₁ hk₂ O hO (W := W)
    hp1 hp2) $$ [HI1 HI2 Hs Hd HG HO Ht1 Hr1 Ht2 Hr2]
  · isplitl [HI1]; · iexact HI1
    isplitl [HI2]; · iexact HI2
    isplitl [Hs]; · iexact Hs
    isplitl [Hd HG]
    · isplitl [Hd]; · iexact Hd
      iexact HG
    isplitl [HO]; · iexact HO
    isplitl [Ht1]; · iexact Ht1
    isplitl [Hr1]; · iexact Hr1
    isplitl [Ht2]; · iexact Ht2
    iexact Hr2
  iexact Hk

/-- A wait for the whole of a round with the one duty `0` hands over its payload. -/
theorem wait {α : Type} {Q : α → sProp 𝕄} (Rd : Rounds.Schedule (GSem nD τ sig) (Fin 3) 𝕄) (c : Dev nD) {sm : DmaSem sig} (sm₀ : DmaSem sig) (hsm : sm = sm₀) (κ : ℕ) (O : CellTallies nD τ sig ℕ) (W : Waits sig ℕ) (r n : ℕ)
    {sp sp' : Space} {s s' : Shape} {e e' : EltTy} {src : Memref sig .tc sp s e} {dst : Memref sig .tc sp' s' e'}
    {hsrc : src.view.WordExact} {hdst : dst.view.WordExact} (hn : dst.view.dmaCredit = n)
    (hdut : Rd.duties ((c : Thread nD τ), .dma sm₀) r = {0}) (hk : Rd.amount ((c : Thread nD τ), .dma sm₀) r 0 = n)
    {k : PUnit → Prog (TpuEff nD τ sig (Elt F) Λ₀ .tc) α} :
    iprop(cellInv ER Rd κ ((c : Thread nD τ), .dma sm₀) ∗ cred (tallyAt ((c : Thread nD τ), SemLoc.dma sm₀) r n) ∗ owes (c : Thread nD τ) O W
        ∗ MayWait (c : Thread nD τ) (.dma sm₀) r O ∗ atPos ER ((c : Thread nD τ), .dma sm₀) r ∅ 0)
      ⊢ iprop(((owes (c : Thread nD τ) O (insert (SemLoc.dma sm₀, r) W) ∗ atPos ER ((c : Thread nD τ), .dma sm₀) (r + 1) ∅ 0
            ∗ reached ER ((c : Thread nD τ), .dma sm₀) (r + 1)
            ∗ Rd.payload ((c : Thread nD τ), .dma sm₀) r 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro ⟨HI, Hc, HO, HM, Hat⟩ Hk
  subst hn
  iapply (Rounds.wp_wait_rest_token 𝒱₀ ER Rd (c : Thread nD τ) none (κ := κ)
      (wpE_waitDma2_eq 𝒱₀ (c : Thread nD τ) none Set.univ) (Set.mem_univ _) r (O := O) (W := W) (R := r) (m := 0) (T := ∅)
      (by unfold Schedule.expect Schedule.amountOf; rw [Nat.zero_add, hdut, Finset.sum_singleton, hk])) $$ [HI Hc HO HM Hat]
  · isplitl [HI]; · iexact HI
    isplitl [Hc]; · iexact Hc
    isplitl [HO]; · iexact HO
    isplitl [HM]; · iexact HM
    iexact Hat
  iintro ⟨HO, Hat, Hr, Hpay⟩
  iapply Hk
  isplitl [HO]; · iexact HO
  isplitl [Hat]; · iexact Hat
  isplitl [Hr]; · iexact Hr
  iapply (Entails.of_eq (show bigSep (Rd.duties ((c : Thread nD τ), .dma sm) r \ ∅) (fun d => Rd.payload ((c : Thread nD τ), .dma sm) r d)
      = Rd.payload ((c : Thread nD τ), .dma sm) r 0 by rw [Finset.sdiff_empty, hdut, bigSep_singleton]))
  iexact Hpay

end Rules

end Cert.KernelIdealRun
-- ==== Proof.KernelIdealSched.lean ====
/-
# The schedule of the kernel's own semaphores

Per device: the barrier, taken once with three units, and six arrays of four DMA semaphores. A right-going copy
of round `t` lands on `recv_r` at the slot's owner and hands over, beside the landed half tile, a free slot of the
sender's left-going buffer (its receiver will copy into it next); the left-going copies mirror it.
-/
module

public import proofs.«01_k».proof.Proof.KernelIdealBase

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Contents -/

/-- What the devices' staged operands hold: activations, weight tiles by number, the two scales. -/
structure Args (F : FTy → Type) where
  /-- the activations' columns of a device -/
  x : Dev nD → S4096x1024.Idx → Elt F .fp8e4m3
  /-- a weight tile of a device -/
  w : Dev nD → ℕ → S1024x2048.Idx → Elt F .fp8e4m3
  /-- the activations' scale -/
  sx : Dev nD → S1.Idx → Elt F .f32
  /-- the weights' scale -/
  sw : Dev nD → S1.Idx → Elt F .f32

variable (A : Args F)

/-- Row block `o` of device `c`'s activations. -/
def xrow (c o : Dev nD) : S1024x1024.Idx → Elt F .fp8e4m3 := fun j => A.x c ((rowRect o).emb j)
/-- Left half of tile `t` of device `c`'s weights. -/
def wl (c : Dev nD) (t : ℕ) : S1024x1024.Idx → Elt F .fp8e4m3 := fun j => A.w c t (rectL.emb j)
/-- Right half. -/
def wr (c : Dev nD) (t : ℕ) : S1024x1024.Idx → Elt F .fp8e4m3 := fun j => A.w c t (rectR.emb j)

/-- Which of two staging buffers tile `t` is in. -/
abbrev par (t : ℕ) : Fin 2 := ⟨t % 2, Nat.mod_lt _ (by decide)⟩

/-- Slot `o` of a four-slot buffer of device `c`, holding `w`. -/
def SL (M : Memref sig .tc .vmem S4x1024x1024 .fp8e4m3) (c o : Dev nD) (q : PosShare TreeShare) (w : S1024x1024.Idx → Elt F .fp8e4m3) : sProp 𝕄 :=
  ownsTc c (slot M o) q (unsq w)
/-- The slot at any contents. -/
def SLx (M : Memref sig .tc .vmem S4x1024x1024 .fp8e4m3) (c o : Dev nD) : sProp 𝕄 := iprop(∃ w, SL (F := F) M c o fullShare w)
/-- A half of a staged weight tile. -/
def WH (r : Bool) (c : Dev nD) (t : ℕ) (q : PosShare TreeShare) : sProp 𝕄 :=
  if r then ownsTc c ((wS (par t)).slice rectR (fun _ => rfl)) q (wr A c t) else ownsTc c ((wS (par t)).slice rectL (fun _ => rfl)) q (wl A c t)
/-- A row block of the staged activations. -/
def XR (c o : Dev nD) : sProp 𝕄 := ownsTc c (xS.slice (rowRect o) (fun _ => rfl)) fullShare (xrow A c o)

omit [FloatOps F] in
instance SL_storable (M c o q w) : BI.Storable (upEmb : UEmb _ 𝕄) (SL (F := F) M c o q w) := by unfold SL ownsTc; infer_instance
omit [FloatOps F] in
instance SLx_storable (M c o) : BI.Storable (upEmb : UEmb _ 𝕄) (SLx (F := F) M c o) := by unfold SLx; infer_instance
omit [FloatOps F] in
instance WH_storable (r c t q) : BI.Storable (upEmb : UEmb _ 𝕄) (WH (F := F) A r c t q) := by unfold WH ownsTc; split <;> infer_instance
omit [FloatOps F] in
instance XR_storable (c o) : BI.Storable (upEmb : UEmb _ 𝕄) (XR (F := F) A c o) := by unfold XR ownsTc; infer_instance

/-! ## Cells -/

/-- The barrier of a device. -/
abbrev bcell (c : Dev nD) : GSem nD τ sig := ((c : Thread nD τ), barS)
/-- A DMA semaphore of a device. -/
abbrev cell (k : Fin 6) (c o : Dev nD) : GSem nD τ sig := ((c : Thread nD τ), .dma (dsem k o))

/-- Which array a DMA semaphore is in. -/
def kind (q : DmaSem sig) : ℕ := (q.val - 7) / 4
/-- Its place in the array. -/
def place (q : DmaSem sig) : Dev nD := ⟨(q.val - 7) % 4, Nat.mod_lt _ (by decide)⟩
/-- Array number of a semaphore given by array and place. -/
theorem kind_dsem (k : Fin 6) (o : Dev nD) : kind (dsem k o) = k.val := by
  have := o.isLt; have : nD = 4 := rfl
  unfold kind dsem; dsimp only; omega
/-- Place of a semaphore given by array and place. -/
theorem place_dsem (k : Fin 6) (o : Dev nD) : place (dsem k o) = o := by
  have := o.isLt; have : nD = 4 := rfl
  unfold place dsem; apply Fin.ext; dsimp only; omega
/-- It is none of the staging semaphores. -/
theorem seven_le (k : Fin 6) (o : Dev nD) : 7 ≤ (dsem k o).val := by unfold dsem; dsimp only; omega

/-- Whether a round of a semaphore has its one duty. -/
def active (c : Dev nD) (k : ℕ) (o : Dev nD) (r : ℕ) : Bool :=
  match k with
  | 0 => decide (o ≠ c ∧ r = 0)
  | 1 => decide (o ≠ c ∧ r = 0)
  | 2 => decide (o ≠ nxt c ∧ r < 4)
  | 3 => decide (o ≠ c ∧ r < 4)
  | 4 => decide (o ≠ prv c ∧ r < 4)
  | 5 => decide (o ≠ c ∧ r < 4)
  | _ => false

/-- A free slot of a buffer of `c`, the semaphore array `k` that guards it having reached round `t` there. -/
def FS (k : Fin 6) (M : Memref sig .tc .vmem S4x1024x1024 .fp8e4m3) (c o : Dev nD) (t : ℕ) : sProp 𝕄 :=
  iprop(SLx (F := F) M c o ∗ reached ER (cell k c o) t)
/-- Of the right-going buffer. -/
abbrev FR (c o : Dev nD) (t : ℕ) : sProp 𝕄 := FS (F := F) 3 rM c o t
/-- Of the left-going buffer. -/
abbrev FL (c o : Dev nD) (t : ℕ) : sProp 𝕄 := FS (F := F) 5 lM c o t
/-- Of the gathered activations. -/
abbrev FX (c o : Dev nD) : sProp 𝕄 := FS (F := F) 1 xM c o 0

omit [FloatOps F] in
instance FS_storable (k M c o t) : BI.Storable (upEmb : UEmb _ 𝕄) (FS (F := F) k M c o t) := by unfold FS; infer_instance

/-- The free slot of the left-going buffer of `prv c` that comes with `o`'s half tile going right. -/
def exR (c o : Dev nD) (r : ℕ) : sProp 𝕄 :=
  if o = prv c then FL (F := F) (prv c) (nxt c) r
  else if o = opp c then FL (F := F) (prv c) (opp c) r
  else if r + 1 < 4 then FL (F := F) (prv c) c (r + 1) else iprop(emp)
/-- The mirror of it. -/
def exL (c o : Dev nD) (r : ℕ) : sProp 𝕄 :=
  if o = nxt c then FR (F := F) (nxt c) (prv c) r
  else if o = opp c then FR (F := F) (nxt c) (opp c) r
  else if r + 1 < 4 then FR (F := F) (nxt c) c (r + 1) else iprop(emp)

omit [FloatOps F] in
instance exR_storable (c o r) : BI.Storable (upEmb : UEmb _ 𝕄) (exR (F := F) c o r) := by
  unfold exR; (repeat' split) <;> infer_instance
omit [FloatOps F] in
instance exL_storable (c o r) : BI.Storable (upEmb : UEmb _ 𝕄) (exL (F := F) c o r) := by
  unfold exL; (repeat' split) <;> infer_instance

/-- What round `r` of a DMA semaphore hands over. -/
def dpay (c : Dev nD) (k : ℕ) (o : Dev nD) (r : ℕ) : sProp 𝕄 :=
  match k with
  | 0 => XR A c o
  | 1 => SL xM c o fullShare (xrow A o c)
  | 2 => if o = c then WH A false c r fullShare.left else SL rM c o fullShare.left (wl A o r)
  | 3 => iprop(SL rM c o fullShare (wl A o r) ∗ exR c o r)
  | 4 => if o = c then WH A true c r fullShare.left else SL lM c o fullShare.left (wr A o r)
  | 5 => iprop(SL lM c o fullShare (wr A o r) ∗ exL c o r)
  | _ => iprop(emp)

omit [FloatOps F] in
instance dpay_storable (c k o r) : BI.Storable (upEmb : UEmb _ 𝕄) (dpay (F := F) A c k o r) := by
  unfold dpay; (repeat' split) <;> infer_instance

/-- What the three units of a device's barrier hand over: from the right, from the left, from across. -/
def bpay (c : Dev nD) (d : Fin 3) : sProp 𝕄 :=
  match d with
  | 0 => iprop(FR (F := F) (nxt c) c 0 ∗ FX (F := F) (nxt c) c)
  | 1 => iprop(FL (F := F) (prv c) c 0 ∗ FX (F := F) (prv c) c)
  | 2 => FX (F := F) (opp c) c

omit [FloatOps F] in
instance bpay_storable (c d) : BI.Storable (upEmb : UEmb _ 𝕄) (bpay (F := F) c d) := by
  unfold bpay; split <;> infer_instance

/-- The duties of a semaphore's round. -/
def dut (c : Dev nD) (s : SemLoc sig) (r : ℕ) : Finset (Fin 3) :=
  match s with
  | .reg _ => if r = 0 then Finset.univ else ∅
  | .dma q => if 7 ≤ q.val ∧ active c (kind q) (place q) r = true then {0} else ∅

/-- What they pay. -/
def pay (c : Dev nD) (s : SemLoc sig) (r : ℕ) (d : Fin 3) : sProp 𝕄 :=
  match s with
  | .reg _ => bpay c d
  | .dma q => dpay A c (kind q) (place q) r

/-- How much. -/
def amt (s : SemLoc sig) : ℕ :=
  match s with
  | .reg _ => 1
  | .dma _ => N

/-- The schedule. -/
def Rd : Rounds.Schedule (GSem nD τ sig) (Fin 3) 𝕄 where
  duties g r := if g.1.2 = .tc then dut g.1.1 g.2 r else ∅
  unitless _ := False
  amount g _ _ := amt g.2
  payload g r d := pay A g.1.1 g.2 r d
  amount_pos g _ _ _ := by
    unfold amt; split
    · exact Nat.one_pos
    · exact N_pos

instance Rd_payload_storable (g : GSem nD τ sig) (r : ℕ) (d : Fin 3) : BI.Storable (upEmb : UEmb _ 𝕄) ((Rd (F := F) A).payload g r d) := by
  show BI.Storable upEmb (pay A g.1.1 g.2 r d)
  unfold pay; split <;> infer_instance

omit [FloatOps F] in
/-- The duties at a device's core. -/
theorem duties_tc (c : Dev nD) (s : SemLoc sig) (r : ℕ) : (Rd (F := F) A).duties ((c : Thread nD τ), s) r = dut c s r := by
  unfold Rd; dsimp only; rw [if_pos rfl]
omit [FloatOps F] in
/-- The one duty of an active round. -/
theorem duties_dma {c : Dev nD} {k : Fin 6} {o : Dev nD} {r : ℕ} (h : active c k.val o r = true) : (Rd (F := F) A).duties (cell k c o) r = {0} := by
  rw [duties_tc]
  unfold dut; dsimp only
  rw [kind_dsem, place_dsem, if_pos ⟨seven_le k o, h⟩]
omit [FloatOps F] in
/-- An inactive round has none. -/
theorem duties_dma_none {c : Dev nD} {k : Fin 6} {o : Dev nD} {r : ℕ} (h : active c k.val o r = false) : (Rd (F := F) A).duties (cell k c o) r = ∅ := by
  rw [duties_tc]
  unfold dut; dsimp only
  rw [kind_dsem, place_dsem, h, if_neg (fun h' => absurd h'.2 (by decide))]
omit [FloatOps F] in
/-- The barrier's three. -/
theorem duties_bar (c : Dev nD) : (Rd (F := F) A).duties (bcell c) 0 = Finset.univ := by
  rw [duties_tc]; rfl
omit [FloatOps F] in
/-- The barrier is used once. -/
theorem duties_bar_later (c : Dev nD) (r : ℕ) (h : 1 ≤ r) : (Rd (F := F) A).duties (bcell c) r = ∅ := by
  rw [duties_tc]
  show (if r = 0 then _ else ∅) = _
  rw [if_neg (by omega)]
omit [FloatOps F] in
/-- A copy's amount. -/
theorem amount_dma (k : Fin 6) (c o : Dev nD) (r : ℕ) (d : Fin 3) : (Rd (F := F) A).amount (cell k c o) r d = N := rfl
omit [FloatOps F] in
/-- A unit of the barrier. -/
theorem amount_bar (c : Dev nD) (r : ℕ) (d : Fin 3) : (Rd (F := F) A).amount (bcell c) r d = 1 := rfl
omit [FloatOps F] in
/-- A copy's payload. -/
theorem payload_dma (k : Fin 6) (c o : Dev nD) (r : ℕ) (d : Fin 3) : (Rd (F := F) A).payload (cell k c o) r d = dpay A c k.val o r := by
  show dpay A c (kind (dsem k o)) (place (dsem k o)) r = _
  rw [kind_dsem, place_dsem]
omit [FloatOps F] in
/-- A unit's payload. -/
theorem payload_bar (c : Dev nD) (r : ℕ) (d : Fin 3) : (Rd (F := F) A).payload (bcell c) r d = bpay c d := rfl
omit [FloatOps F] in
/-- The barrier's round is three units. -/
theorem expect_bar (c : Dev nD) : (Rd (F := F) A).expect (bcell c) 0 = 3 := by
  unfold Schedule.expect Schedule.amountOf
  rw [duties_bar, Finset.sum_congr rfl fun d _ => amount_bar A c 0 d, Finset.sum_const, Finset.card_univ, Fintype.card_fin, smul_eq_mul]
omit [FloatOps F] in
/-- What taking the barrier yields. -/
theorem rest_bar (c : Dev nD) : bigSep ((Rd (F := F) A).duties (bcell c) 0 \ ∅) (fun d => (Rd (F := F) A).payload (bcell c) 0 d)
    = iprop(bpay (F := F) c 0 ∗ bpay (F := F) c 1 ∗ bpay (F := F) c 2) := by
  rw [Finset.sdiff_empty, duties_bar, bigSep_univ_eq_bigSepL [0, 1, 2] (by decide) (by decide), bigSepL_cons_cons, bigSepL_cons_cons, bigSepL_singleton]
  rfl

/-! ## The cells, numbered; their invariants -/

/-- Number of a DMA semaphore among a device's twenty-five. -/
abbrev cix (k : Fin 6) (o : Dev nD) : Fin 25 := ⟨1 + 4 * k.val + o.val, by revert k o; decide⟩
/-- The semaphore of a number: the barrier's, then the arrays'. -/
def osemB (j : Fin 25) : SemLoc sig := if h : j.val = 0 then barS else .dma ⟨6 + j.val, by revert j; decide⟩
/-- The cell of a device's number. -/
abbrev kcell (ck : Dev nD × Fin 25) : GSem nD τ sig := ((ck.1 : Thread nD τ), osemB ck.2)
/-- A DMA semaphore by its number. -/
theorem kcell_cix (k : Fin 6) (c o : Dev nD) : kcell (c, cix k o) = cell k c o := by
  show ((c : Thread nD τ), osemB (cix k o)) = _
  unfold osemB
  rw [dif_neg (by show 1 + 4 * k.val + o.val ≠ 0; omega)]
  refine congrArg (Prod.mk _) (congrArg SemLoc.dma (Fin.ext ?_))
  show 6 + (1 + 4 * k.val + o.val) = 7 + 4 * k.val + o.val
  omega
/-- The barrier by its number. -/
theorem kcell_zero (c : Dev nD) : kcell (c, 0) = bcell c := rfl

variable (K : Dev nD × Fin 25 → ℕ)

/-- Every cell's invariant. -/
def allInv : sProp 𝕄 := bigSep Finset.univ fun ck : Dev nD × Fin 25 => cellInv ER (Rd A) (K ck) (kcell ck)

omit [FloatOps F] in
instance allInv_persistent : BI.Persistent (allInv (F := F) A K) := by unfold allInv; infer_instance

omit [FloatOps F] in
/-- One of them, by number. -/
theorem inv_get (ck : Dev nD × Fin 25) : allInv (F := F) A K ⊢ cellInv ER (Rd A) (K ck) (kcell ck) := by
  unfold allInv; exact bigSep_elim (Finset.mem_univ ck)
omit [FloatOps F] in
/-- A DMA semaphore's. -/
theorem inv_dma (k : Fin 6) (c o : Dev nD) : allInv (F := F) A K ⊢ cellInv ER (Rd A) (K (c, cix k o)) (cell k c o) := by
  have h := inv_get (F := F) A K (c, cix k o)
  rwa [kcell_cix] at h
omit [FloatOps F] in
/-- The barrier's. -/
theorem inv_bar (c : Dev nD) : allInv (F := F) A K ⊢ cellInv ER (Rd A) (K (c, 0)) (bcell c) := inv_get (F := F) A K (c, 0)

/-! ## Levels and obligations -/

/-- How many hops right-going data of `o` has made at `c`. -/
def hopR (c o : Dev nD) : ℕ := (c.val + 7 - o.val) % 4
/-- The same, left-going. -/
def hopL (c o : Dev nD) : ℕ := (o.val + 7 - c.val) % 4

/-- The level of a semaphore's round. -/
def lvS (c : Dev nD) (s : SemLoc sig) (r : ℕ) : ℕ :=
  match s with
  | .reg _ => 1
  | .dma q => if q.val < 7 then 0 else
      match kind q with
      | 1 => 2
      | 3 => 3 + 3 * r + hopR c (place q)
      | 5 => 3 + 3 * r + hopL c (place q)
      | _ => 0
/-- The rounds that have a level. -/
def L (g : GSem nD τ sig) : Finset ℕ := if g.1.2 = .tc then Finset.range 4 else ∅
/-- The level of a cell's round. -/
def lv (g : GSem nD τ sig) (r : ℕ) : ℕ := lvS g.1.1 g.2 r

/-- Level of a DMA semaphore of the kernel's. -/
theorem lv_cell (k : Fin 6) (c o : Dev nD) (r : ℕ) : lv (cell k c o) r
    = match k.val with
      | 1 => 2
      | 3 => 3 + 3 * r + hopR c o
      | 5 => 3 + 3 * r + hopL c o
      | _ => 0 := by
  show lvS c (.dma (dsem k o)) r = _
  unfold lvS; dsimp only
  rw [kind_dsem, place_dsem, if_neg (by have := seven_le k o; omega)]

/-- What a device owes, as a list of credits: a cell, a round, an amount. -/
def oblig : List (GSem nD τ sig × ℕ × ℕ) → CellTallies nD τ sig ℕ
  | [] => 0
  | e :: l => oblig l + tallyAt e.1 e.2.1 e.2.2

/-- A positive tally is one of the list's. -/
theorem oblig_pos {l : List (GSem nD τ sig × ℕ × ℕ)} {g : GSem nD τ sig} {r : ℕ} (h : 0 < oblig l g r) : ∃ e ∈ l, e.1 = g ∧ e.2.1 = r := by
  induction l with
  | nil => exact absurd h (Nat.lt_irrefl 0)
  | cons e l ih =>
    unfold oblig at h
    rw [Pi.add_apply, Finsupp.add_apply, tallyAt_apply] at h
    by_cases he : g = e.1 ∧ r = e.2.1
    · exact ⟨e, List.mem_cons_self .., he.1.symm, he.2.symm⟩
    · rw [if_neg he, Nat.add_zero] at h
      obtain ⟨e', h', h''⟩ := ih h
      exact ⟨e', List.mem_cons_of_mem _ h', h''⟩

/-- An owed credit lies above level `n`. -/
def Above (n : ℕ) (e : GSem nD τ sig × ℕ × ℕ) : Prop := e.1.1.2 = .tc ∧ e.2.1 < 4 ∧ n < lv e.1 e.2.1

omit [FloatOps F] in
/-- A device may wait where everything it owes lies above. -/
theorem mayWait (c : Dev nD) (s : SemLoc sig) (r : ℕ) (hr : r < 4) (l : List (GSem nD τ sig × ℕ × ℕ))
    (h : ∀ e ∈ l, Above (lv ((c : Thread nD τ), s) r) e) : (levAts L lv : sProp 𝕄) ⊢ MayWait (c : Thread nD τ) s r (oblig l) :=
  MayOwe.of_cut (L := L) (lev := lv) (lv ((c : Thread nD τ), s) r)
    (fun p hp => by
      rw [Finset.mem_singleton.mp hp]; show r ∈ L _
      unfold L; rw [if_pos rfl]; exact Finset.mem_range.mpr hr)
    (fun g u hg => by
      obtain ⟨e, he, rfl, rfl⟩ := oblig_pos hg
      unfold L; rw [if_pos (h e he).1]; exact Finset.mem_range.mpr (h e he).2.1)
    (fun p hp => by rw [Finset.mem_singleton.mp hp])
    (fun g u hg => by
      obtain ⟨e, he, rfl, rfl⟩ := oblig_pos hg
      exact (h e he).2.2)

/-- The six copies' credits of a step, in program order. -/
def stepL (c : Dev nD) (t : ℕ) : List (GSem nD τ sig × ℕ × ℕ) :=
  [(cell 3 (nxt c) c, t, N), (cell 5 (prv c) c, t, N), (cell 3 (nxt c) (prv c), t, N), (cell 5 (prv c) (nxt c), t, N),
    (cell 3 (nxt c) (opp c), t, N), (cell 5 (prv c) (opp c), t, N)]
/-- Those of step `t` and after. -/
def futL (c : Dev nD) (t : ℕ) : List (GSem nD τ sig × ℕ × ℕ) := (List.range' t (4 - t)).flatMap (stepL c)

/-- Step `t`'s first. -/
theorem futL_step (c : Dev nD) {t : ℕ} (h : t < 4) : futL c t = stepL c t ++ futL c (t + 1) := by
  unfold futL
  rw [show 4 - t = (4 - (t + 1)) + 1 by omega, List.range'_succ, List.flatMap_cons]
/-- Nothing after the last. -/
theorem futL_four (c : Dev nD) : futL c 4 = [] := rfl

/-- A device's own data has made no hop at the right neighbour. -/
theorem hopR_nxt (c : Dev nD) : hopR (nxt c) c = 0 := by revert c; decide
/-- The left neighbour's has made one there. -/
theorem hopR_nxt_prv (c : Dev nD) : hopR (nxt c) (prv c) = 1 := by revert c; decide
/-- That from across, two. -/
theorem hopR_nxt_opp (c : Dev nD) : hopR (nxt c) (opp c) = 2 := by revert c; decide
/-- Mirror. -/
theorem hopL_prv (c : Dev nD) : hopL (prv c) c = 0 := by revert c; decide
/-- Mirror. -/
theorem hopL_prv_nxt (c : Dev nD) : hopL (prv c) (nxt c) = 1 := by revert c; decide
/-- Mirror. -/
theorem hopL_prv_opp (c : Dev nD) : hopL (prv c) (opp c) = 2 := by revert c; decide
/-- The left neighbour's data at home. -/
theorem hopR_prv (c : Dev nD) : hopR c (prv c) = 0 := by revert c; decide
/-- That from across. -/
theorem hopR_opp (c : Dev nD) : hopR c (opp c) = 1 := by revert c; decide
/-- The right neighbour's. -/
theorem hopR_home_nxt (c : Dev nD) : hopR c (nxt c) = 2 := by revert c; decide
/-- Mirror. -/
theorem hopL_nxt (c : Dev nD) : hopL c (nxt c) = 0 := by revert c; decide
/-- Mirror. -/
theorem hopL_opp (c : Dev nD) : hopL c (opp c) = 1 := by revert c; decide
/-- Mirror. -/
theorem hopL_home_prv (c : Dev nD) : hopL c (prv c) = 2 := by revert c; decide

/-- The credit owed for a right-going landing lies at its hop. -/
theorem above_r {n : ℕ} {c o : Dev nD} {t m : ℕ} (ht : t < 4) (h : n < 3 + 3 * t + hopR c o) : Above n (cell 3 c o, t, m) :=
  ⟨rfl, ht, by show n < lv (cell 3 c o) t; rw [lv_cell]; exact h⟩
/-- Mirror. -/
theorem above_l {n : ℕ} {c o : Dev nD} {t m : ℕ} (ht : t < 4) (h : n < 3 + 3 * t + hopL c o) : Above n (cell 5 c o, t, m) :=
  ⟨rfl, ht, by show n < lv (cell 5 c o) t; rw [lv_cell]; exact h⟩
/-- That for an activation block. -/
theorem above_x {n : ℕ} {c o : Dev nD} {m : ℕ} (h : n < 2) : Above n (cell 1 c o, 0, m) :=
  ⟨rfl, by show 0 < 4; decide, by show n < lv (cell 1 c o) 0; rw [lv_cell]; exact h⟩
/-- That for a barrier unit. -/
theorem above_b {c : Dev nD} {m : ℕ} : Above 0 (bcell c, 0, m) := ⟨rfl, by show 0 < 4; decide, by show 0 < 1; decide⟩

/-- A step's credits lie above the step's base. -/
theorem above_step {n : ℕ} {c : Dev nD} {t : ℕ} (ht : t < 4) (h : n < 3 + 3 * t) : ∀ e ∈ stepL c t, Above n e := by
  intro e he
  unfold stepL at he
  simp only [List.mem_cons, List.not_mem_nil, or_false] at he
  rcases he with rfl | rfl | rfl | rfl | rfl | rfl
  · exact above_r ht (by omega)
  · exact above_l ht (by omega)
  · exact above_r ht (by omega)
  · exact above_l ht (by omega)
  · exact above_r ht (by omega)
  · exact above_l ht (by omega)
/-- And later steps' above it too. -/
theorem above_fut {n : ℕ} {c : Dev nD} {t : ℕ} (h : n < 3 + 3 * t) : ∀ e ∈ futL c t, Above n e := by
  intro e he
  unfold futL at he
  rw [List.mem_flatMap] at he
  obtain ⟨s, hs, he⟩ := he
  rw [List.mem_range'] at hs
  obtain ⟨i, hi, rfl⟩ := hs
  exact above_step (by omega) (by omega) e he
/-- One more at the head. -/
theorem above_cons {n : ℕ} {e : GSem nD τ sig × ℕ × ℕ} {l : List (GSem nD τ sig × ℕ × ℕ)} (he : Above n e) (hl : ∀ e ∈ l, Above n e) :
    ∀ e' ∈ e :: l, Above n e' := by
  intro e' h'
  rcases List.mem_cons.mp h' with rfl | h'
  · exact he
  · exact hl _ h'

/-- A device owes a list, whatever it has waited for. -/
def owesX (c : Dev nD) (l : List (GSem nD τ sig × ℕ × ℕ)) : sProp 𝕄 := iprop(∃ W, owes (c : Thread nD τ) (oblig l) W)

end Cert.KernelIdealRun
-- ==== Proof.KernelIdealRules.lean ====
/-
# The rules on the schedule

A wait and the thirteen copies, each with what it takes and what it leaves.
-/
module

public import proofs.«01_k».proof.Proof.KernelIdealSched

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Args F) (K : Dev nD × Fin 25 → ℕ)

/-- The shared facts: every cell's invariant, every round's level. -/
def ctx : sProp 𝕄 := iprop(allInv A K ∗ levAts L lv)
omit [FloatOps F] in
instance ctx_persistent : BI.Persistent (ctx (F := F) A K) := by unfold ctx; infer_instance
/-- Device `c` is at round `r` of a semaphore of its own. -/
def pos (k : Fin 6) (c o : Dev nD) (r : ℕ) : sProp 𝕄 := iprop(atPos ER (cell k c o) r ∅ 0 ∗ reached ER (cell k c o) r)
/-- The right to pay a round of a semaphore. -/
def tok (k : Fin 6) (c o : Dev nD) (r : ℕ) : sProp 𝕄 := dutyTok ER (cell k c o) r 0
/-- The credit awaited of a round. -/
def crd (k : Fin 6) (c o : Dev nD) (r : ℕ) : sProp 𝕄 := cred (tallyAt (cell k c o) r N)

/-- The squeezed slot, owned. -/
theorem SL_sq (M c o q w) : (SL (F := F) M c o q w : sProp 𝕄) = ownsTc c (slotSq M o) q w := (owns_squeeze c M o q w).symm
omit [FloatOps F] in
/-- A slot at two half shares. -/
theorem SL_halves (M c o w) : (SL (F := F) M c o fullShare w : sProp 𝕄) ⊣⊢ iprop(SL M c o fullShare.left w ∗ SL M c o fullShare.right w) := by
  unfold SL; exact owns_halves _ _ _ _
omit [FloatOps F] in
/-- A tile half at two half shares. -/
theorem WH_halves (b c t) : (WH (F := F) A b c t fullShare : sProp 𝕄) ⊣⊢ iprop(WH A b c t fullShare.left ∗ WH A b c t fullShare.right) := by
  unfold WH; split <;> exact owns_halves _ _ _ _

/-- A slot is inside its buffer. -/
theorem slot_inb (o : Dev nD) : ∀ a, (![o.val, 0, 0] : Fin 3 → ℕ) a + S1x1024x1024.size a ≤ S4x1024x1024.size a := by revert o; decide
/-! No two places are one. -/
theorem ne_nxt (c : Dev nD) : c ≠ nxt c := by revert c; decide
theorem ne_prv (c : Dev nD) : c ≠ prv c := by revert c; decide
theorem nxt_ne (c : Dev nD) : nxt c ≠ c := by revert c; decide
theorem prv_ne (c : Dev nD) : prv c ≠ c := by revert c; decide
theorem opp_ne (c : Dev nD) : opp c ≠ c := by revert c; decide
theorem prv_ne_nxt (c : Dev nD) : prv c ≠ nxt c := by revert c; decide
theorem nxt_ne_prv (c : Dev nD) : nxt c ≠ prv c := by revert c; decide
theorem opp_ne_nxt (c : Dev nD) : opp c ≠ nxt c := by revert c; decide
theorem opp_ne_prv (c : Dev nD) : opp c ≠ prv c := by revert c; decide

section Hand
variable (c : Dev nD) (r : ℕ)
/-! What comes with each landing, seen from the receiver and from the sender. -/
omit [FloatOps F] in
theorem exR_prv : exR (F := F) c (prv c) r = FL (prv c) (nxt c) r := by unfold exR; rw [if_pos rfl]
omit [FloatOps F] in
theorem exR_opp : exR (F := F) c (opp c) r = FL (prv c) (opp c) r := by
  unfold exR; rw [if_neg (by revert c; decide), if_pos rfl]
omit [FloatOps F] in
theorem exR_nxt : exR (F := F) c (nxt c) r = if r + 1 < 4 then FL (prv c) c (r + 1) else iprop(emp) := by
  unfold exR; rw [if_neg (by revert c; decide), if_neg (by revert c; decide)]
omit [FloatOps F] in
theorem exL_nxt : exL (F := F) c (nxt c) r = FR (nxt c) (prv c) r := by unfold exL; rw [if_pos rfl]
omit [FloatOps F] in
theorem exL_opp : exL (F := F) c (opp c) r = FR (nxt c) (opp c) r := by
  unfold exL; rw [if_neg (by revert c; decide), if_pos rfl]
omit [FloatOps F] in
theorem exL_prv : exL (F := F) c (prv c) r = if r + 1 < 4 then FR (nxt c) c (r + 1) else iprop(emp) := by
  unfold exL; rw [if_neg (by revert c; decide), if_neg (by revert c; decide)]
omit [FloatOps F] in
theorem sxR0 : exR (F := F) (nxt c) c r = FL c (opp c) r := by
  have h := exR_prv (F := F) (nxt c) r; rw [prv_nxt, nxt_nxt] at h; exact h
omit [FloatOps F] in
theorem sxR1 : exR (F := F) (nxt c) (prv c) r = FL c (prv c) r := by
  have h := exR_opp (F := F) (nxt c) r; rw [prv_nxt, opp_nxt] at h; exact h
omit [FloatOps F] in
theorem sxR2 : exR (F := F) (nxt c) (opp c) r = if r + 1 < 4 then FL c (nxt c) (r + 1) else iprop(emp) := by
  have h := exR_nxt (F := F) (nxt c) r; rw [prv_nxt, nxt_nxt] at h; exact h
omit [FloatOps F] in
theorem sxL0 : exL (F := F) (prv c) c r = FR c (opp c) r := by
  have h := exL_nxt (F := F) (prv c) r; rw [nxt_prv, prv_prv] at h; exact h
omit [FloatOps F] in
theorem sxL1 : exL (F := F) (prv c) (nxt c) r = FR c (nxt c) r := by
  have h := exL_opp (F := F) (prv c) r; rw [nxt_prv, opp_prv] at h; exact h
omit [FloatOps F] in
theorem sxL2 : exL (F := F) (prv c) (opp c) r = if r + 1 < 4 then FR c (prv c) (r + 1) else iprop(emp) := by
  have h := exL_prv (F := F) (prv c) r; rw [nxt_prv, prv_prv] at h; exact h
end Hand

/-- A wait for a round of the device's own. -/
theorem waitD {α : Type} {Q : α → sProp 𝕄} (c : Dev nD) (k : Fin 6) (o : Dev nD) {sm : DmaSem sig} (hsm : sm = dsem k o) (r : ℕ) (hr : r < 4)
    (hact : active c k.val o r = true) (l : List (GSem nD τ sig × ℕ × ℕ)) (hl : ∀ e ∈ l, Above (lv (cell k c o) r) e)
    {sp sp' : Space} {s s' : Shape} {e e' : EltTy} {src : Memref sig .tc sp s e} {dst : Memref sig .tc sp' s' e'}
    {hsrc : src.view.WordExact} {hdst : dst.view.WordExact} (hn : dst.view.dmaCredit = N)
    {kk : PUnit → Prog (TpuEff nD τ sig (Elt F) Λ₀ .tc) α} :
    iprop(ctx A K ∗ crd k c o r ∗ owesX c l ∗ pos k c o r)
      ⊢ iprop(((owesX c l ∗ pos k c o (r + 1) ∗ dpay A c k.val o r) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  unfold ctx owesX pos crd
  iintro ⟨⟨#HI, #Hl⟩, Hc, ⟨%W, HO⟩, Hat, -⟩ Hk
  iapply (wait (Rd A) c (dsem k o) hsm (K (c, cix k o)) (oblig l) W r N hn (duties_dma A hact) (amount_dma A k c o r 0)) $$ [Hc HO Hat]
  · isplitr; · iapply (inv_dma A K k c o); iexact HI
    isplitl [Hc]; · iexact Hc
    isplitl [HO]; · iexact HO
    isplitr; · iapply (mayWait c (.dma (dsem k o)) r hr l hl); iexact Hl
    iexact Hat
  iintro ⟨HO, Hat, Hr, Hp⟩
  iapply Hk
  isplitl [HO]; · iexists _; iexact HO
  isplitl [Hat Hr]
  · isplitl [Hat]; · iexact Hat
    iexact Hr
  iapply (Entails.of_eq (payload_dma A k c o r 0)); iexact Hp

/-- A copy of the schedule: source share and destination given, the send credit and the source's round kept. -/
theorem sendD {α : Type} {Q : α → sProp 𝕄} (c d : Dev nD) {d' : Dev nD} (hd : d' = d) (kS : Fin 6) (oS : Dev nD) (kD : Fin 6) (o : Dev nD)
    {src : Memref sig .tc .vmem S1024x1024 .fp8e4m3} (src₀ : Memref sig .tc .vmem S1024x1024 .fp8e4m3) (hsrc₀ : src = src₀)
    {dst : Memref sig .tc .vmem S1024x1024 .fp8e4m3} (M : Memref sig .tc .vmem S4x1024x1024 .fp8e4m3) (hdst₀ : dst = slotSq M o)
    {sS sD : DmaSem sig} (hsS : sS = dsem kS oS) (hsD : sD = dsem kD o)
    {hsc : (show Memref sig (Dev.tc d' : Thread nD τ).2.kind .vmem S1024x1024 .fp8e4m3 from dst).view.ref.isScScratch = false}
    {hsrc : src.view.WordExact} {hdst : dst.view.WordExact}
    {hsem : DmaTarget.Typed .vmem (.dma sD) (.remote (Dev.tc d' : Thread nD τ) (show Memref sig (Dev.tc d' : Thread nD τ).2.kind .vmem S1024x1024 .fp8e4m3 from dst) (.dma sS) hsc)}
    {kk : PUnit → Prog (TpuEff nD τ sig (Elt F) Λ₀ .tc) α} (r : ℕ)
    (hS : active c kS.val oS r = true) (hD : active d kD.val o r = true) (l : List (GSem nD τ sig × ℕ × ℕ))
    {q : PosShare TreeShare} {X : S1024x1024.Idx → Elt F .fp8e4m3} {G : sProp 𝕄}
    (hpay₁ : (ownsTc c src₀ q X : sProp 𝕄) ⊢ dpay A c kS.val oS r)
    (hpay₂ : iprop(SL M d o fullShare X ∗ G) ⊢ dpay A d kD.val o r) :
    iprop(ctx A K ∗ ownsTc c src₀ q X ∗ FS kD M d o r ∗ G ∗ owesX c ((cell kD d o, r, N) :: l) ∗ tok kS c oS r ∗ pos kS c oS r ∗ tok kD d o r)
      ⊢ iprop(((crd kS c oS r ∗ owesX c l ∗ pos kS c oS r) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc d' : Thread nD τ) dst (.dma sS) hsc) (.dma sD) hsrc hdst hsem) kk) Q) := by
  unfold ctx owesX pos crd FS SLx tok
  iintro ⟨⟨#HI, #Hl⟩, Hs, ⟨⟨%Y, Hd⟩, #HrD⟩, HG, ⟨%W, HO⟩, Ht1, ⟨Hat, #Hr1⟩, Ht2⟩ Hk
  ihave Hd := (Entails.of_eq (SL_sq M d o fullShare Y)) $$ Hd
  iapply (send (Rd A) c d hd src₀ hsrc₀ (slotSq M o) hdst₀ (dsem kS oS) (dsem kD o) hsS hsD (K (c, cix kS oS)) (K (d, cix kD o)) r N rfl
      (by rw [duties_dma A hS]; exact Finset.mem_singleton_self _) (by rw [duties_dma A hD]; exact Finset.mem_singleton_self _)
      (amount_dma A kS c oS r 0) (amount_dma A kD d o r 0) (oblig l) rfl (W := W) (Y := Y) (G := G)
      (by rw [payload_dma]; exact hpay₁) (by rw [payload_dma, ← SL_sq]; exact hpay₂)) $$ [Hs Hd HG HO Ht1 Ht2]
  · isplitr; · iapply (inv_dma A K kS c oS); iexact HI
    isplitr; · iapply (inv_dma A K kD d o); iexact HI
    isplitl [Hs]; · iexact Hs
    isplitl [Hd HG]
    · isplitl [Hd]; · iexact Hd
      iexact HG
    isplitl [HO]; · iexact HO
    isplitl [Ht1]; · iexact Ht1
    isplitr; · iexact Hr1
    isplitl [Ht2]; · iexact Ht2
    iexact HrD
  iintro ⟨Hc, HO⟩
  iapply Hk
  isplitl [Hc]; · iexact Hc
  isplitl [HO]; · iexists W; iexact HO
  isplitl [Hat]; · iexact Hat
  iexact Hr1

/-- An activation block to another device. -/
theorem copyX {α : Type} {Q : α → sProp 𝕄} (r : ℕ) (c : Dev nD) (d : Dev nD) (hne : d ≠ c) {d' : Dev nD} (hd : d' = d)
    {src : Memref sig .tc .vmem S1024x1024 .fp8e4m3} (hsrc₀ : src = xS.slice (rowRect d) (fun _ => rfl))
    {dst : Memref sig .tc .vmem S1024x1024 .fp8e4m3} (hdst₀ : dst = slotSq xM c)
    {sS sD : DmaSem sig} (hsS : sS = dsem 0 d) (hsD : sD = dsem 1 c)
    {hsc : (show Memref sig (Dev.tc d' : Thread nD τ).2.kind .vmem S1024x1024 .fp8e4m3 from dst).view.ref.isScScratch = false}
    {hsrc : src.view.WordExact} {hdst : dst.view.WordExact}
    {hsem : DmaTarget.Typed .vmem (.dma sD) (.remote (Dev.tc d' : Thread nD τ) (show Memref sig (Dev.tc d' : Thread nD τ).2.kind .vmem S1024x1024 .fp8e4m3 from dst) (.dma sS) hsc)}
    {kk : PUnit → Prog (TpuEff nD τ sig (Elt F) Λ₀ .tc) α} (hr0 : r = 0) (l : List (GSem nD τ sig × ℕ × ℕ)) :
    iprop(ctx A K ∗ XR A c d ∗ FS 1 xM (d) (c) r ∗ emp ∗ owesX c ((cell 1 (d) (c), r, N) :: l) ∗ tok 0 c (d) r ∗ pos 0 c (d) r ∗ tok 1 (d) (c) r)
      ⊢ iprop(((crd 0 c (d) r ∗ owesX c l ∗ pos 0 c (d) r) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc d' : Thread nD τ) dst (.dma sS) hsc) (.dma sD) hsrc hdst hsem) kk) Q) := by
  have h := sendD (F := F) A K (Q := Q) c (d) hd 0 (d) 1 (c) (xS.slice (rowRect d) (fun _ => rfl)) hsrc₀ xM hdst₀ hsS hsD
    (hsc := hsc) (hsrc := hsrc) (hdst := hdst) (hsem := hsem) (kk := kk) r (by have h0 : r = 0 := hr0; subst h0; unfold active; exact decide_eq_true ⟨hne, rfl⟩) (by have h0 : r = 0 := hr0; subst h0; unfold active; exact decide_eq_true ⟨hne.symm, rfl⟩) l (q := fullShare) (X := xrow A c d) (G := iprop(emp))
    (by unfold dpay XR; exact BIBase.Entails.rfl)
    (by unfold dpay; exact Laws.sep_emp.1)
  exact h
/-- The device's own tile half, going right. -/
theorem copyR0 {α : Type} {Q : α → sProp 𝕄} (r : ℕ) (c : Dev nD)  {d' : Dev nD} (hd : d' = nxt c)
    {src : Memref sig .tc .vmem S1024x1024 .fp8e4m3} (hsrc₀ : src = (wS (par r)).slice rectL (fun _ => rfl))
    {dst : Memref sig .tc .vmem S1024x1024 .fp8e4m3} (hdst₀ : dst = slotSq rM c)
    {sS sD : DmaSem sig} (hsS : sS = dsem 2 c) (hsD : sD = dsem 3 c)
    {hsc : (show Memref sig (Dev.tc d' : Thread nD τ).2.kind .vmem S1024x1024 .fp8e4m3 from dst).view.ref.isScScratch = false}
    {hsrc : src.view.WordExact} {hdst : dst.view.WordExact}
    {hsem : DmaTarget.Typed .vmem (.dma sD) (.remote (Dev.tc d' : Thread nD τ) (show Memref sig (Dev.tc d' : Thread nD τ).2.kind .vmem S1024x1024 .fp8e4m3 from dst) (.dma sS) hsc)}
    {kk : PUnit → Prog (TpuEff nD τ sig (Elt F) Λ₀ .tc) α} (hr : r < 4) (l : List (GSem nD τ sig × ℕ × ℕ)) :
    iprop(ctx A K ∗ WH A false c r fullShare.left ∗ FS 3 rM (nxt c) (c) r ∗ exR (nxt c) c r ∗ owesX c ((cell 3 (nxt c) (c), r, N) :: l) ∗ tok 2 c (c) r ∗ pos 2 c (c) r ∗ tok 3 (nxt c) (c) r)
      ⊢ iprop(((crd 2 c (c) r ∗ owesX c l ∗ pos 2 c (c) r) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc d' : Thread nD τ) dst (.dma sS) hsc) (.dma sD) hsrc hdst hsem) kk) Q) := by
  have h := sendD (F := F) A K (Q := Q) c (nxt c) hd 2 (c) 3 (c) ((wS (par r)).slice rectL (fun _ => rfl)) hsrc₀ rM hdst₀ hsS hsD
    (hsc := hsc) (hsrc := hsrc) (hdst := hdst) (hsem := hsem) (kk := kk) r (by unfold active; exact decide_eq_true ⟨ne_nxt c, hr⟩) (by unfold active; exact decide_eq_true ⟨ne_nxt c, hr⟩) l (q := fullShare.left) (X := wl A c r) (G := exR (nxt c) c r)
    (by rw [show dpay (F := F) A c (2 : Fin 6).val c r = WH A false c r fullShare.left from if_pos rfl]; unfold WH; exact BIBase.Entails.rfl)
    (by unfold dpay; exact BIBase.Entails.rfl)
  unfold WH; exact h
/-- A landed tile half, forwarded right. -/
theorem copyR {α : Type} {Q : α → sProp 𝕄} (r : ℕ) (c : Dev nD) (o : Dev nD) (ho : o ≠ c) (ho' : o ≠ nxt c) {d' : Dev nD} (hd : d' = nxt c)
    {src : Memref sig .tc .vmem S1024x1024 .fp8e4m3} (hsrc₀ : src = slotSq rM o)
    {dst : Memref sig .tc .vmem S1024x1024 .fp8e4m3} (hdst₀ : dst = slotSq rM o)
    {sS sD : DmaSem sig} (hsS : sS = dsem 2 o) (hsD : sD = dsem 3 o)
    {hsc : (show Memref sig (Dev.tc d' : Thread nD τ).2.kind .vmem S1024x1024 .fp8e4m3 from dst).view.ref.isScScratch = false}
    {hsrc : src.view.WordExact} {hdst : dst.view.WordExact}
    {hsem : DmaTarget.Typed .vmem (.dma sD) (.remote (Dev.tc d' : Thread nD τ) (show Memref sig (Dev.tc d' : Thread nD τ).2.kind .vmem S1024x1024 .fp8e4m3 from dst) (.dma sS) hsc)}
    {kk : PUnit → Prog (TpuEff nD τ sig (Elt F) Λ₀ .tc) α} (hr : r < 4) (l : List (GSem nD τ sig × ℕ × ℕ)) :
    iprop(ctx A K ∗ SL rM c o fullShare.left (wl A o r) ∗ FS 3 rM (nxt c) (o) r ∗ exR (nxt c) o r ∗ owesX c ((cell 3 (nxt c) (o), r, N) :: l) ∗ tok 2 c (o) r ∗ pos 2 c (o) r ∗ tok 3 (nxt c) (o) r)
      ⊢ iprop(((crd 2 c (o) r ∗ owesX c l ∗ pos 2 c (o) r) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc d' : Thread nD τ) dst (.dma sS) hsc) (.dma sD) hsrc hdst hsem) kk) Q) := by
  have h := sendD (F := F) A K (Q := Q) c (nxt c) hd 2 (o) 3 (o) (slotSq rM o) hsrc₀ rM hdst₀ hsS hsD
    (hsc := hsc) (hsrc := hsrc) (hdst := hdst) (hsem := hsem) (kk := kk) r (by unfold active; exact decide_eq_true ⟨ho', hr⟩) (by unfold active; exact decide_eq_true ⟨ho', hr⟩) l (q := fullShare.left) (X := wl A o r) (G := exR (nxt c) o r)
    (by rw [show dpay (F := F) A c (2 : Fin 6).val o r = SL rM c o fullShare.left (wl A o r) from if_neg ho, SL_sq])
    (by unfold dpay; exact BIBase.Entails.rfl)
  rw [SL_sq]; exact h
/-- The device's own tile half, going left. -/
theorem copyL0 {α : Type} {Q : α → sProp 𝕄} (r : ℕ) (c : Dev nD)  {d' : Dev nD} (hd : d' = prv c)
    {src : Memref sig .tc .vmem S1024x1024 .fp8e4m3} (hsrc₀ : src = (wS (par r)).slice rectR (fun _ => rfl))
    {dst : Memref sig .tc .vmem S1024x1024 .fp8e4m3} (hdst₀ : dst = slotSq lM c)
    {sS sD : DmaSem sig} (hsS : sS = dsem 4 c) (hsD : sD = dsem 5 c)
    {hsc : (show Memref sig (Dev.tc d' : Thread nD τ).2.kind .vmem S1024x1024 .fp8e4m3 from dst).view.ref.isScScratch = false}
    {hsrc : src.view.WordExact} {hdst : dst.view.WordExact}
    {hsem : DmaTarget.Typed .vmem (.dma sD) (.remote (Dev.tc d' : Thread nD τ) (show Memref sig (Dev.tc d' : Thread nD τ).2.kind .vmem S1024x1024 .fp8e4m3 from dst) (.dma sS) hsc)}
    {kk : PUnit → Prog (TpuEff nD τ sig (Elt F) Λ₀ .tc) α} (hr : r < 4) (l : List (GSem nD τ sig × ℕ × ℕ)) :
    iprop(ctx A K ∗ WH A true c r fullShare.left ∗ FS 5 lM (prv c) (c) r ∗ exL (prv c) c r ∗ owesX c ((cell 5 (prv c) (c), r, N) :: l) ∗ tok 4 c (c) r ∗ pos 4 c (c) r ∗ tok 5 (prv c) (c) r)
      ⊢ iprop(((crd 4 c (c) r ∗ owesX c l ∗ pos 4 c (c) r) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc d' : Thread nD τ) dst (.dma sS) hsc) (.dma sD) hsrc hdst hsem) kk) Q) := by
  have h := sendD (F := F) A K (Q := Q) c (prv c) hd 4 (c) 5 (c) ((wS (par r)).slice rectR (fun _ => rfl)) hsrc₀ lM hdst₀ hsS hsD
    (hsc := hsc) (hsrc := hsrc) (hdst := hdst) (hsem := hsem) (kk := kk) r (by unfold active; exact decide_eq_true ⟨ne_prv c, hr⟩) (by unfold active; exact decide_eq_true ⟨ne_prv c, hr⟩) l (q := fullShare.left) (X := wr A c r) (G := exL (prv c) c r)
    (by rw [show dpay (F := F) A c (4 : Fin 6).val c r = WH A true c r fullShare.left from if_pos rfl]; unfold WH; exact BIBase.Entails.rfl)
    (by unfold dpay; exact BIBase.Entails.rfl)
  unfold WH; exact h
/-- A landed tile half, forwarded left. -/
theorem copyL {α : Type} {Q : α → sProp 𝕄} (r : ℕ) (c : Dev nD) (o : Dev nD) (ho : o ≠ c) (ho' : o ≠ prv c) {d' : Dev nD} (hd : d' = prv c)
    {src : Memref sig .tc .vmem S1024x1024 .fp8e4m3} (hsrc₀ : src = slotSq lM o)
    {dst : Memref sig .tc .vmem S1024x1024 .fp8e4m3} (hdst₀ : dst = slotSq lM o)
    {sS sD : DmaSem sig} (hsS : sS = dsem 4 o) (hsD : sD = dsem 5 o)
    {hsc : (show Memref sig (Dev.tc d' : Thread nD τ).2.kind .vmem S1024x1024 .fp8e4m3 from dst).view.ref.isScScratch = false}
    {hsrc : src.view.WordExact} {hdst : dst.view.WordExact}
    {hsem : DmaTarget.Typed .vmem (.dma sD) (.remote (Dev.tc d' : Thread nD τ) (show Memref sig (Dev.tc d' : Thread nD τ).2.kind .vmem S1024x1024 .fp8e4m3 from dst) (.dma sS) hsc)}
    {kk : PUnit → Prog (TpuEff nD τ sig (Elt F) Λ₀ .tc) α} (hr : r < 4) (l : List (GSem nD τ sig × ℕ × ℕ)) :
    iprop(ctx A K ∗ SL lM c o fullShare.left (wr A o r) ∗ FS 5 lM (prv c) (o) r ∗ exL (prv c) o r ∗ owesX c ((cell 5 (prv c) (o), r, N) :: l) ∗ tok 4 c (o) r ∗ pos 4 c (o) r ∗ tok 5 (prv c) (o) r)
      ⊢ iprop(((crd 4 c (o) r ∗ owesX c l ∗ pos 4 c (o) r) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc d' : Thread nD τ) dst (.dma sS) hsc) (.dma sD) hsrc hdst hsem) kk) Q) := by
  have h := sendD (F := F) A K (Q := Q) c (prv c) hd 4 (o) 5 (o) (slotSq lM o) hsrc₀ lM hdst₀ hsS hsD
    (hsc := hsc) (hsrc := hsrc) (hdst := hdst) (hsem := hsem) (kk := kk) r (by unfold active; exact decide_eq_true ⟨ho', hr⟩) (by unfold active; exact decide_eq_true ⟨ho', hr⟩) l (q := fullShare.left) (X := wr A o r) (G := exL (prv c) o r)
    (by rw [show dpay (F := F) A c (4 : Fin 6).val o r = SL lM c o fullShare.left (wr A o r) from if_neg ho, SL_sq])
    (by unfold dpay; exact BIBase.Entails.rfl)
  rw [SL_sq]; exact h

/-- A load of a slot reads it on three axes. -/
theorem ldSlot {α : Type} {Q : α → sProp 𝕄} (c : Dev nD) (M : Memref sig .tc .vmem S4x1024x1024 .fp8e4m3) (o : Dev nD) {off : Fin 3 → ℕ} (hoff : off = ![o.val, 0, 0])
    {h : ∀ a, off a + S1x1024x1024.size a ≤ S4x1024x1024.size a}
    {hl : M.view.LoadsAt (Rect.unit (s := S4x1024x1024) off S1x1024x1024.size h).toLoadRect} {q : PosShare TreeShare} {w : S1024x1024.Idx → Elt F .fp8e4m3}
    {kk : ((Rect.unit (s := S4x1024x1024) off S1x1024x1024.size h).toLoadRect.shape.Idx → Elt F .fp8e4m3) → Prog (TpuEff nD τ sig (Elt F) Λ₀ .tc) α} :
    (SL M c o q w : sProp 𝕄)
      ⊢ iprop((SL M c o q w -∗ wp frame (wpE (defs₀ (F := F)) 𝒱₀ (c : Thread nD τ) none) Set.univ (kk (unsq w)) Q)
          -∗ wp frame (wpE (defs₀ (F := F)) 𝒱₀ (c : Thread nD τ) none) Set.univ (.op (.load M (Rect.unit (s := S4x1024x1024) off S1x1024x1024.size h).toLoadRect hl) kk) Q) := by
  unfold SL
  exact ld (M := M) c ![o.val, 0, 0] hoff (slot_inb o)

end Cert.KernelIdealRun
-- ==== Proof.KernelIdealAddr.lean ====
/-
# Printed devices and offsets, by place on the ring

And the pieces of a step's obligations with their levels.
-/
module

public import proofs.«01_k».proof.Proof.KernelIdealRules

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Args F) (K : Dev nD × Fin 25 → ℕ)

/-! Each printed device and offset is one of the four places seen from `c`. -/
theorem d1 (c : Dev nD) (h : k0_dev1 c < nD) : (⟨k0_dev1 c, h⟩ : Dev nD) = prv c := Fin.ext (k0_dev1_eq c)
theorem d2 (c : Dev nD) (h : k0_dev2 c < nD) : (⟨k0_dev2 c, h⟩ : Dev nD) = nxt c := Fin.ext (k0_dev2_eq c)
theorem d3 (c : Dev nD) (h : k0_dev3 c < nD) : (⟨k0_dev3 c, h⟩ : Dev nD) = opp c := Fin.ext (k0_dev3_eq c)
theorem d4 (c : Dev nD) (h : k0_dev4 c < nD) : (⟨k0_dev4 c, h⟩ : Dev nD) = prv c := Fin.ext (k0_dev4_eq c)
theorem d5 (c : Dev nD) (h : k0_dev5 c < nD) : (⟨k0_dev5 c, h⟩ : Dev nD) = nxt c := Fin.ext (k0_dev5_eq c)
theorem d6 (c : Dev nD) (h : k0_dev6 c < nD) : (⟨k0_dev6 c, h⟩ : Dev nD) = opp c := Fin.ext (k0_dev6_eq c)
theorem d7 (c : Dev nD) (h : k0_dev7 c < nD) : (⟨k0_dev7 c, h⟩ : Dev nD) = nxt c := Fin.ext (k0_dev7_eq c)
theorem d8 (c : Dev nD) (h : k0_dev8 c < nD) : (⟨k0_dev8 c, h⟩ : Dev nD) = prv c := Fin.ext (k0_dev8_eq c)
theorem d9 (c : Dev nD) (h : k0_dev9 c < nD) : (⟨k0_dev9 c, h⟩ : Dev nD) = nxt c := Fin.ext (k0_dev9_eq c)
theorem d10 (c : Dev nD) (h : k0_dev10 c < nD) : (⟨k0_dev10 c, h⟩ : Dev nD) = prv c := Fin.ext (k0_dev10_eq c)
theorem d11 (c : Dev nD) (h : k0_dev11 c < nD) : (⟨k0_dev11 c, h⟩ : Dev nD) = nxt c := Fin.ext (k0_dev11_eq c)
theorem d12 (c : Dev nD) (h : k0_dev12 c < nD) : (⟨k0_dev12 c, h⟩ : Dev nD) = prv c := Fin.ext (k0_dev12_eq c)
theorem o1 (c : Dev nD) : k0_off1 c = ![1024 * c.val, 0] := by revert c; decide +kernel
theorem o2 (c : Dev nD) : k0_off2 c = ![c.val, 0, 0] := by revert c; decide +kernel
theorem o3 (c : Dev nD) : k0_off3 c = ![(prv c).val] := by revert c; decide +kernel
theorem o4 (c : Dev nD) : k0_off4 c = ![c.val] := by revert c; decide +kernel
theorem o5 (c : Dev nD) : k0_off5 c = ![c.val, 0, 0] := by revert c; decide +kernel
theorem o6 (c : Dev nD) : k0_off6 c = ![1024 * (prv c).val, 0] := by revert c; decide +kernel
theorem o7_1 (c : Dev nD) : k0_off7 c 1#32 = ![(nxt c).val] := by revert c; decide +kernel
theorem o7_2 (c : Dev nD) : k0_off7 c 2#32 = ![(opp c).val] := by revert c; decide +kernel
theorem o8_1 (c : Dev nD) : k0_off8 c 1#32 = ![1024 * (nxt c).val, 0] := by revert c; decide +kernel
theorem o8_2 (c : Dev nD) : k0_off8 c 2#32 = ![1024 * (opp c).val, 0] := by revert c; decide +kernel
theorem o9 (c : Dev nD) : k0_off9 c = ![c.val] := by revert c; decide +kernel
theorem o10 (c : Dev nD) : k0_off10 c = ![c.val, 0, 0] := by revert c; decide +kernel
theorem o11 (c : Dev nD) : k0_off11 c = ![(nxt c).val, 0, 0] := by revert c; decide +kernel
theorem o12 (c : Dev nD) : k0_off12 c = ![(prv c).val, 0, 0] := by revert c; decide +kernel
theorem o13 (c : Dev nD) : k0_off13 c = ![c.val, 0, 0] := by revert c; decide +kernel
theorem o14_0 (c : Dev nD) : k0_off14 c 0#32 = ![(prv c).val] := by revert c; decide +kernel
theorem o14_1 (c : Dev nD) : k0_off14 c 1#32 = ![(opp c).val] := by revert c; decide +kernel
theorem o14_2 (c : Dev nD) : k0_off14 c 2#32 = ![(nxt c).val] := by revert c; decide +kernel
theorem o15_0 (c : Dev nD) : k0_off15 c 0#32 = ![(prv c).val, 0, 0] := by revert c; decide +kernel
theorem o15_1 (c : Dev nD) : k0_off15 c 1#32 = ![(opp c).val, 0, 0] := by revert c; decide +kernel
theorem o15_2 (c : Dev nD) : k0_off15 c 2#32 = ![(nxt c).val, 0, 0] := by revert c; decide +kernel
theorem o16_0 (c : Dev nD) : k0_off16 c 0#32 = ![(nxt c).val] := by revert c; decide +kernel
theorem o16_1 (c : Dev nD) : k0_off16 c 1#32 = ![(opp c).val] := by revert c; decide +kernel
theorem o16_2 (c : Dev nD) : k0_off16 c 2#32 = ![(prv c).val] := by revert c; decide +kernel
theorem o17_0 (c : Dev nD) : k0_off17 c 0#32 = ![(nxt c).val, 0, 0] := by revert c; decide +kernel
theorem o17_1 (c : Dev nD) : k0_off17 c 1#32 = ![(opp c).val, 0, 0] := by revert c; decide +kernel
theorem o17_2 (c : Dev nD) : k0_off17 c 2#32 = ![(prv c).val, 0, 0] := by revert c; decide +kernel
theorem o18_1 (c : Dev nD) : k0_off18 c 1#32 = ![(prv c).val] := by revert c; decide +kernel
theorem o18_2 (c : Dev nD) : k0_off18 c 2#32 = ![(opp c).val] := by revert c; decide +kernel
theorem o19_1 (c : Dev nD) : k0_off19 c 1#32 = ![(prv c).val, 0, 0] := by revert c; decide +kernel
theorem o19_2 (c : Dev nD) : k0_off19 c 2#32 = ![(opp c).val, 0, 0] := by revert c; decide +kernel
theorem o20_1 (c : Dev nD) : k0_off20 c 1#32 = ![(nxt c).val] := by revert c; decide +kernel
theorem o20_2 (c : Dev nD) : k0_off20 c 2#32 = ![(opp c).val] := by revert c; decide +kernel
theorem o21_1 (c : Dev nD) : k0_off21 c 1#32 = ![(nxt c).val, 0, 0] := by revert c; decide +kernel
theorem o21_2 (c : Dev nD) : k0_off21 c 2#32 = ![(opp c).val, 0, 0] := by revert c; decide +kernel
theorem o22 (c : Dev nD) : k0_off22 c = ![(prv c).val] := by revert c; decide +kernel
theorem o23 (c : Dev nD) : k0_off23 c = ![(prv c).val, 0, 0] := by revert c; decide +kernel
theorem o24 (c : Dev nD) : k0_off24 c = ![(nxt c).val] := by revert c; decide +kernel
theorem o25 (c : Dev nD) : k0_off25 c = ![(nxt c).val, 0, 0] := by revert c; decide +kernel
theorem o26_1 (c : Dev nD) : k0_off26 c 1#32 = ![(prv c).val, 0, 0] := by revert c; decide +kernel
theorem o26_2 (c : Dev nD) : k0_off26 c 2#32 = ![(opp c).val, 0, 0] := by revert c; decide +kernel
theorem o27_1 (c : Dev nD) : k0_off27 c 1#32 = ![(nxt c).val, 0, 0] := by revert c; decide +kernel
theorem o27_2 (c : Dev nD) : k0_off27 c 2#32 = ![(opp c).val, 0, 0] := by revert c; decide +kernel
theorem o28 (c : Dev nD) : k0_off28 c = ![(opp c).val] := by revert c; decide +kernel
theorem o29 (c : Dev nD) : k0_off29 c = ![(opp c).val, 0, 0] := by revert c; decide +kernel
theorem o30 (c : Dev nD) : k0_off30 c = ![c.val] := by revert c; decide +kernel
theorem o31 (c : Dev nD) : k0_off31 c = ![c.val, 0, 0] := by revert c; decide +kernel
theorem o32 (c : Dev nD) : k0_off32 c = ![(prv c).val] := by revert c; decide +kernel
theorem o33 (c : Dev nD) : k0_off33 c = ![(prv c).val, 0, 0] := by revert c; decide +kernel
theorem o34_1 (c : Dev nD) : k0_off34 c 1#32 = ![(nxt c).val] := by revert c; decide +kernel
theorem o34_2 (c : Dev nD) : k0_off34 c 2#32 = ![(opp c).val] := by revert c; decide +kernel
theorem o35_1 (c : Dev nD) : k0_off35 c 1#32 = ![(nxt c).val, 0, 0] := by revert c; decide +kernel
theorem o35_2 (c : Dev nD) : k0_off35 c 2#32 = ![(opp c).val, 0, 0] := by revert c; decide +kernel

/-! ## The obligations within a step -/

/-- After the six copies. -/
abbrev l6 (c : Dev nD) (t : ℕ) : List (GSem nD τ sig × ℕ × ℕ) := futL c (t + 1)
/-- After five. -/
abbrev l5 (c : Dev nD) (t : ℕ) : List (GSem nD τ sig × ℕ × ℕ) := (cell 5 (prv c) (opp c), t, N) :: l6 c t
/-- After four. -/
abbrev l4 (c : Dev nD) (t : ℕ) : List (GSem nD τ sig × ℕ × ℕ) := (cell 3 (nxt c) (opp c), t, N) :: l5 c t
/-- After three. -/
abbrev l3 (c : Dev nD) (t : ℕ) : List (GSem nD τ sig × ℕ × ℕ) := (cell 5 (prv c) (nxt c), t, N) :: l4 c t
/-- After two. -/
abbrev l2 (c : Dev nD) (t : ℕ) : List (GSem nD τ sig × ℕ × ℕ) := (cell 3 (nxt c) (prv c), t, N) :: l3 c t
/-- After one. -/
abbrev l1 (c : Dev nD) (t : ℕ) : List (GSem nD τ sig × ℕ × ℕ) := (cell 5 (prv c) c, t, N) :: l2 c t
/-- Before the first. -/
abbrev l0 (c : Dev nD) (t : ℕ) : List (GSem nD τ sig × ℕ × ℕ) := (cell 3 (nxt c) c, t, N) :: l1 c t
/-- They are the step's and the later ones. -/
theorem futL_l0 (c : Dev nD) {t : ℕ} (h : t < 4) : futL c t = l0 c t := by rw [futL_step c h]; rfl

/-- Later steps' credits lie above all hops of the step. -/
theorem ab6 (c : Dev nD) {n t : ℕ} (h : n < 6 + 3 * t) : ∀ e ∈ l6 c t, Above n e := above_fut (by omega)
/-- The last two copies' lie above the second hop's. -/
theorem ab4 (c : Dev nD) {n t : ℕ} (ht : t < 4) (h : n < 5 + 3 * t) : ∀ e ∈ l4 c t, Above n e :=
  above_cons (above_r ht (by rw [hopR_nxt_opp]; omega)) (above_cons (above_l ht (by rw [hopL_prv_opp]; omega)) (ab6 c (by omega)))
/-- The last four copies' above the first hop's. -/
theorem ab2 (c : Dev nD) {n t : ℕ} (ht : t < 4) (h : n < 4 + 3 * t) : ∀ e ∈ l2 c t, Above n e :=
  above_cons (above_r ht (by rw [hopR_nxt_prv]; omega)) (above_cons (above_l ht (by rw [hopL_prv_nxt]; omega)) (ab4 c ht (by omega)))
/-- All six above the activations'. -/
theorem ab0 (c : Dev nD) {n t : ℕ} (ht : t < 4) (h : n < 3 + 3 * t) : ∀ e ∈ l0 c t, Above n e :=
  above_cons (above_r ht (by rw [hopR_nxt]; omega)) (above_cons (above_l ht (by rw [hopL_prv]; omega)) (ab2 c ht (by omega)))

/-! Levels of the semaphores waited for. -/
theorem lv_r0 (c : Dev nD) (t : ℕ) : lv (cell 3 c (prv c)) t = 3 + 3 * t := (lv_cell 3 c (prv c) t).trans (by rw [hopR_prv]; rfl)
theorem lv_r1 (c : Dev nD) (t : ℕ) : lv (cell 3 c (opp c)) t = 4 + 3 * t := (lv_cell 3 c (opp c) t).trans (by rw [hopR_opp]; show 3 + 3 * t + 1 = _; omega)
theorem lv_r2 (c : Dev nD) (t : ℕ) : lv (cell 3 c (nxt c)) t = 5 + 3 * t := (lv_cell 3 c (nxt c) t).trans (by rw [hopR_home_nxt]; show 3 + 3 * t + 2 = _; omega)
theorem lv_l0 (c : Dev nD) (t : ℕ) : lv (cell 5 c (nxt c)) t = 3 + 3 * t := (lv_cell 5 c (nxt c) t).trans (by rw [hopL_nxt]; rfl)
theorem lv_l1 (c : Dev nD) (t : ℕ) : lv (cell 5 c (opp c)) t = 4 + 3 * t := (lv_cell 5 c (opp c) t).trans (by rw [hopL_opp]; show 3 + 3 * t + 1 = _; omega)
theorem lv_l2 (c : Dev nD) (t : ℕ) : lv (cell 5 c (prv c)) t = 5 + 3 * t := (lv_cell 5 c (prv c) t).trans (by rw [hopL_home_prv]; show 3 + 3 * t + 2 = _; omega)
theorem lv_x (c o : Dev nD) (t : ℕ) : lv (cell 1 c o) t = 2 := lv_cell 1 c o t
theorem lv_s0 (c o : Dev nD) (t : ℕ) : lv (cell 0 c o) t = 0 := lv_cell 0 c o t
theorem lv_s2 (c o : Dev nD) (t : ℕ) : lv (cell 2 c o) t = 0 := lv_cell 2 c o t
theorem lv_s4 (c o : Dev nD) (t : ℕ) : lv (cell 4 c o) t = 0 := lv_cell 4 c o t

/-! Rounds that are active. -/
theorem act1 {c o : Dev nD} (h : o ≠ c) : active c (1 : Fin 6).val o 0 = true := decide_eq_true ⟨h, rfl⟩
theorem act0 {c o : Dev nD} (h : o ≠ c) : active c (0 : Fin 6).val o 0 = true := decide_eq_true ⟨h, rfl⟩
theorem act2 {c o : Dev nD} {t : ℕ} (h : o ≠ nxt c) (ht : t < 4) : active c (2 : Fin 6).val o t = true := decide_eq_true ⟨h, ht⟩
theorem act3 {c o : Dev nD} {t : ℕ} (h : o ≠ c) (ht : t < 4) : active c (3 : Fin 6).val o t = true := decide_eq_true ⟨h, ht⟩
theorem act4 {c o : Dev nD} {t : ℕ} (h : o ≠ prv c) (ht : t < 4) : active c (4 : Fin 6).val o t = true := decide_eq_true ⟨h, ht⟩
theorem act5 {c o : Dev nD} {t : ℕ} (h : o ≠ c) (ht : t < 4) : active c (5 : Fin 6).val o t = true := decide_eq_true ⟨h, ht⟩

/-! What the waits hand over. -/
omit [FloatOps F] in
theorem got0 (c o : Dev nD) (r : ℕ) : dpay (F := F) A c (0 : Fin 6).val o r = XR A c o := rfl
omit [FloatOps F] in
theorem got1 (c o : Dev nD) (r : ℕ) : dpay (F := F) A c (1 : Fin 6).val o r = SL xM c o fullShare (xrow A o c) := rfl
omit [FloatOps F] in
theorem got2c (c : Dev nD) (r : ℕ) : dpay (F := F) A c (2 : Fin 6).val c r = WH A false c r fullShare.left := if_pos rfl
omit [FloatOps F] in
theorem got2 {c o : Dev nD} (h : o ≠ c) (r : ℕ) : dpay (F := F) A c (2 : Fin 6).val o r = SL rM c o fullShare.left (wl A o r) := if_neg h
omit [FloatOps F] in
theorem got3 (c o : Dev nD) (r : ℕ) : dpay (F := F) A c (3 : Fin 6).val o r = iprop(SL rM c o fullShare (wl A o r) ∗ exR c o r) := rfl
omit [FloatOps F] in
theorem got4c (c : Dev nD) (r : ℕ) : dpay (F := F) A c (4 : Fin 6).val c r = WH A true c r fullShare.left := if_pos rfl
omit [FloatOps F] in
theorem got4 {c o : Dev nD} (h : o ≠ c) (r : ℕ) : dpay (F := F) A c (4 : Fin 6).val o r = SL lM c o fullShare.left (wr A o r) := if_neg h
omit [FloatOps F] in
theorem got5 (c o : Dev nD) (r : ℕ) : dpay (F := F) A c (5 : Fin 6).val o r = iprop(SL lM c o fullShare (wr A o r) ∗ exL c o r) := rfl

/-! ## Slots given away and kept -/

omit [FloatOps F] in
/-- A slot at any contents, with its semaphore's place, is a free slot to give; the place stays. -/
theorem give (k : Fin 6) (M c o) (t : ℕ) : iprop(SLx (F := F) M c o ∗ pos k c o t) ⊢ iprop(FS k M c o t ∗ pos k c o t) := by
  unfold pos FS
  iintro ⟨H, Ha, #Hr⟩
  isplitl [H]
  · isplitl [H]; · iexact H
    iexact Hr
  isplitl [Ha]; · iexact Ha
  iexact Hr
/-- A slot given away unless the step is the last. -/
def keep (M : Memref sig .tc .vmem S4x1024x1024 .fp8e4m3) (c o : Dev nD) (t : ℕ) : sProp 𝕄 := if t + 1 < 4 then iprop(emp) else SLx M c o
omit [FloatOps F] in
/-- So splits a slot: given in an earlier step, kept in the last. -/
theorem give_next (k : Fin 6) (M c o) (t : ℕ) :
    iprop(SLx (F := F) M c o ∗ pos k c o (t + 1)) ⊢ iprop((if t + 1 < 4 then FS k M c o (t + 1) else iprop(emp)) ∗ keep M c o t ∗ pos k c o (t + 1)) := by
  unfold keep
  split
  · refine (give k M c o (t + 1)).trans ?_
    iintro ⟨H, Ha⟩
    isplitl [H]; · iexact H
    isplitr; · iempintro
    iexact Ha
  · iintro ⟨H, Ha⟩
    isplitr; · iempintro
    isplitl [H]; · iexact H
    iexact Ha
omit [FloatOps F] in
/-- Any contents. -/
theorem SL_any (M c o w) : SL (F := F) M c o fullShare w ⊢ SLx M c o := by
  unfold SLx; iintro H; iexists w; iexact H
omit [FloatOps F] in
/-- A forwarded slot back in one piece. -/
theorem SL_join (M c o w) : iprop(SL (F := F) M c o fullShare.left w ∗ SL M c o fullShare.right w) ⊢ SLx M c o :=
  (SL_halves M c o w).2.trans (SL_any M c o w)

omit [FloatOps F] in
/-- The left half of a staged tile. -/
theorem WH_l (c : Dev nD) (t : ℕ) (q : PosShare TreeShare) : WH (F := F) A false c t q = ownsTc c ((wS (par t)).slice rectL (fun _ => rfl)) q (wl A c t) := rfl
omit [FloatOps F] in
/-- The right half. -/
theorem WH_r (c : Dev nD) (t : ℕ) (q : PosShare TreeShare) : WH (F := F) A true c t q = ownsTc c ((wS (par t)).slice rectR (fun _ => rfl)) q (wr A c t) := rfl

/-- The accumulator's left half. -/
abbrev AL (c : Dev nD) (X : S1024x1024.Idx → Elt F .f32) : sProp 𝕄 := ownsTc c (aM.slice rectL (fun _ => rfl)) fullShare X
/-- Its right half. -/
abbrev AR (c : Dev nD) (X : S1024x1024.Idx → Elt F .f32) : sProp 𝕄 := ownsTc c (aM.slice rectR (fun _ => rfl)) fullShare X
/-- The result tile's left half. -/
abbrev OL (s : Fin 2) (c : Dev nD) (X : S1024x1024.Idx → Elt F .f32) : sProp 𝕄 := ownsTc c ((oS s).slice rectL (fun _ => rfl)) fullShare X
/-- Its right half. -/
abbrev OR (s : Fin 2) (c : Dev nD) (X : S1024x1024.Idx → Elt F .f32) : sProp 𝕄 := ownsTc c ((oS s).slice rectR (fun _ => rfl)) fullShare X

/-- An activation block of another device, landed. -/
def XD (c o : Dev nD) : sProp 𝕄 := iprop(SL xM c o fullShare (xrow A o c) ∗ pos 1 c o 1)
/-- It, or in the first step the wait for it. -/
def XP (first : Bool) (c o : Dev nD) : sProp 𝕄 := if first then iprop(crd 1 c o 0 ∗ pos 1 c o 0) else XD A c o

end Cert.KernelIdealRun
-- ==== Proof.KernelIdealParts.lean ====
/-
# The parts of a step

Each printed part of the body, run at a symbolic device and step.
-/
module

public import proofs.«01_k».proof.Proof.KernelIdealAddr

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Args F) (K : Dev nD × Fin 25 → ℕ)

/-- The device's own rows against its own tile start both halves of the accumulator. -/
theorem part2 {Q : PUnit → sProp 𝕄} (i : grid0.Coords) (t : ℕ) (ht : t < 4) (s : Fin 2) (c : Dev nD) (h4 : k0_cond4 i = 1#1)
    {harg1 : xS.IsWhole} {harg2 : (wS (par t)).IsWhole} {harg3 : (Memref.whole cc0_stg2_0 : Memref sig .tc .smem S1 .f32).IsWhole} {harg4 : (Memref.whole cc0_stg3_0 : Memref sig .tc .smem S1 .f32).IsWhole}
    {harg5 : (oS s).IsWhole} {harg6 : xM.IsWhole} {harg7 : rM.IsWhole} {harg8 : lM.IsWhole} {harg9 : aM.IsWhole} (v2 v5 : BitVec 32) (X Y) :
    iprop(SL xM c c fullShare (xrow A c c) ∗ WH A false c t fullShare.right ∗ WH A true c t fullShare.right ∗ AL c X ∗ AR c Y)
      ⊢ iprop(((SL xM c c fullShare (xrow A c c) ∗ WH A false c t fullShare.right ∗ WH A true c t fullShare.right ∗ AL c (k0_pay5 (unsq (xrow A c c)) (wl A c t)) ∗ AR c (k0_pay6 (unsq (xrow A c c)) (wr A c t))) -∗ Q ⟨⟩)
          -∗ wp frame (wpE (defs₀ (F := F)) 𝒱₀ (c : Thread nD τ) none) Set.univ
            (k0_part2 i xS harg1 (wS (par t)) harg2 (Memref.whole cc0_stg2_0) harg3 (Memref.whole cc0_stg3_0) harg4 (oS s) harg5 xM harg6 rM harg7 lM harg8 aM harg9
              cc0_scratch4 cc0_scratch5 cc0_scratch6 cc0_scratch7 cc0_scratch8 cc0_scratch9  c v2 v5 h4) Q) := by
  rw [k0_part2_eq_skeleton]; unfold k0_part2_skel
  simp only [Prog.lift, Prog.bind_op, Prog.bind_ret, Prog.pure_eq_ret]
  rw [WH_l, WH_r]
  iintro ⟨I0, I1, I2, I3, I4⟩ Hk
  iapply (ldSlot c xM c (o13 c)) $$ I0
  iintro I0
  iapply (ld (M := wS (par t)) c ![0, 0] rfl inb_S1024x2048_S1024x1024_0_0) $$ I1
  iintro I1
  iapply (ld (M := aM) c ![0, 0] rfl inb_S1024x2048_S1024x1024_0_0) $$ I3
  iintro I3
  iapply (st (M := aM) c ![0, 0] rfl inb_S1024x2048_S1024x1024_0_0) $$ I3
  iintro H1
  iapply (ldSlot c xM c (o13 c)) $$ I0
  iintro I0
  iapply (ld (M := wS (par t)) c ![0, 1024] rfl inb_S1024x2048_S1024x1024_0_1024) $$ I2
  iintro I2
  iapply (ld (M := aM) c ![0, 1024] rfl inb_S1024x2048_S1024x1024_0_1024) $$ I4
  iintro I4
  iapply (st (M := aM) c ![0, 1024] rfl inb_S1024x2048_S1024x1024_0_1024) $$ I4
  iintro H2
  rw [wp_ret]; imodintro
  iapply Hk
  isplitl [I0]; · iexact I0
  isplitl [I1]; · iexact I1
  isplitl [I2]; · iexact I2
  isplitl [H1]; · iexact H1
  iexact H2

/-- The neighbours' tiles land; the one from the left goes on right. -/
theorem part3 {Q : BitVec 32 → sProp 𝕄} (i : grid0.Coords) (t : ℕ) (ht : t < 4) (s : Fin 2) (c : Dev nD) (h4 : k0_cond4 i = 1#1)
    {harg1 : xS.IsWhole} {harg2 : (wS (par t)).IsWhole} {harg3 : (Memref.whole cc0_stg2_0 : Memref sig .tc .smem S1 .f32).IsWhole} {harg4 : (Memref.whole cc0_stg3_0 : Memref sig .tc .smem S1 .f32).IsWhole}
    {harg5 : (oS s).IsWhole} {harg6 : xM.IsWhole} {harg7 : rM.IsWhole} {harg8 : lM.IsWhole} {harg9 : aM.IsWhole} (v2 v7 : BitVec 32) :
    iprop(ctx A K ∗ crd 3 c (prv c) t ∗ pos 3 c (prv c) t ∗ crd 5 c (nxt c) t ∗ pos 5 c (nxt c) t ∗ owesX c (l2 c t) ∗ SLx lM c (prv c) ∗ pos 5 c (prv c) t ∗ tok 2 c (prv c) t ∗ pos 2 c (prv c) t ∗ tok 3 (nxt c) (prv c) t)
      ⊢ iprop(((owesX c (l3 c t) ∗ pos 3 c (prv c) (t + 1) ∗ pos 5 c (nxt c) (t + 1) ∗ SL rM c (prv c) fullShare.right (wl A (prv c) t) ∗ SL lM c (nxt c) fullShare (wr A (nxt c) t) ∗ FL (prv c) (nxt c) t ∗ crd 2 c (prv c) t ∗ pos 2 c (prv c) t ∗ pos 5 c (prv c) t) -∗ Q 1#32)
          -∗ wp frame (wpE (defs₀ (F := F)) 𝒱₀ (c : Thread nD τ) none) Set.univ
            (k0_part3 i xS harg1 (wS (par t)) harg2 (Memref.whole cc0_stg2_0) harg3 (Memref.whole cc0_stg3_0) harg4 (oS s) harg5 xM harg6 rM harg7 lM harg8 aM harg9
              cc0_scratch4 cc0_scratch5 cc0_scratch6 cc0_scratch7 cc0_scratch8 cc0_scratch9  c v2 v7 h4) Q) := by
  rw [k0_part3_eq_skeleton]; unfold k0_part3_skel
  simp only [Prog.lift, Prog.bind_op, Prog.bind_ret, Prog.pure_eq_ret]
  iintro ⟨#HC, I0, I1, I2, I3, I4, I5, I6, I7, I8, I9⟩ Hk
  iapply (waitD A K c 3 (prv c) (sem_eq 3 (prv c) (o14_0 c) _ _) t ht (act3 (prv_ne c) ht) (l2 c t) (by rw [lv_r0]; exact ab2 c ht (by omega)) (credit_any _)) $$ [I0 I4 I1]
  · isplitr; · iexact HC
    isplitl [I0]; · iexact I0
    isplitl [I4]; · iexact I4
    iexact I1
  iintro ⟨H1, H2, H3⟩
  ihave H3 := (Entails.of_eq (got3 A c (prv c) t)) $$ H3
  icases H3 with ⟨H4, H5⟩
  ihave H6 := (Entails.of_eq (exR_prv c t)) $$ H5
  ihave H7 := (SL_halves rM c (prv c) _).1 $$ H4
  icases H7 with ⟨H8, H9⟩
  iapply (waitD A K c 5 (nxt c) (sem_eq 5 (nxt c) (o16_0 c) _ _) t ht (act5 (nxt_ne c) ht) (l2 c t) (by rw [lv_l0]; exact ab2 c ht (by omega)) (credit_any _)) $$ [I2 H1 I3]
  · isplitr; · iexact HC
    isplitl [I2]; · iexact I2
    isplitl [H1]; · iexact H1
    iexact I3
  iintro ⟨H10, H11, H12⟩
  ihave H12 := (Entails.of_eq (got5 A c (nxt c) t)) $$ H12
  icases H12 with ⟨H13, H14⟩
  ihave H15 := (Entails.of_eq (exL_nxt c t)) $$ H14
  ihave H16 := (give 5 lM c (prv c) t) $$ [I5 I6]
  · isplitl [I5]; · iexact I5
    iexact I6
  icases H16 with ⟨H17, H18⟩
  iapply (copyR A K t c (prv c) (prv_ne c) (prv_ne_nxt c) (d9 c _) (slot_eq rM (prv c) (o19_1 c) _ _ _) (slot_eq rM (prv c) (o19_1 c) _ _ _) (sem_eq 2 (prv c) (o18_1 c) _ _) (sem_eq 3 (prv c) (o18_1 c) _ _) ht (l3 c t)) $$ [H8 H15 H17 H10 I7 I8 I9]
  · isplitr; · iexact HC
    isplitl [H8]; · iexact H8
    isplitl [H15]; · iexact H15
    isplitl [H17]; · iapply (Entails.of_eq (sxR1 c t).symm); iexact H17
    isplitl [H10]; · iexact H10
    isplitl [I7]; · iexact I7
    isplitl [I8]; · iexact I8
    iexact I9
  iintro ⟨H19, H20, H21⟩
  rw [wp_ret]; imodintro
  iapply Hk
  isplitl [H20]; · iexact H20
  isplitl [H2]; · iexact H2
  isplitl [H11]; · iexact H11
  isplitl [H9]; · iexact H9
  isplitl [H13]; · iexact H13
  isplitl [H6]; · iexact H6
  isplitl [H19]; · iexact H19
  isplitl [H21]; · iexact H21
  iexact H18

/-- The tile from the right goes on left; in the first step the neighbours' rows are awaited; the left half gains its second term. -/
theorem part4 {Q : (Σ' (_ : BitVec 32), Vec F S1024x1024 .f32) → sProp 𝕄} (i : grid0.Coords) (t : ℕ) (ht : t < 4) (s : Fin 2) (c : Dev nD) (h4 : k0_cond4 i = 1#1)
    {harg1 : xS.IsWhole} {harg2 : (wS (par t)).IsWhole} {harg3 : (Memref.whole cc0_stg2_0 : Memref sig .tc .smem S1 .f32).IsWhole} {harg4 : (Memref.whole cc0_stg3_0 : Memref sig .tc .smem S1 .f32).IsWhole}
    {harg5 : (oS s).IsWhole} {harg6 : xM.IsWhole} {harg7 : rM.IsWhole} {harg8 : lM.IsWhole} {harg9 : aM.IsWhole} (first : Bool) (h5 : k0_cond5 i = 1#1 ↔ first = true) (v0 v2 v5 v7 w : BitVec 32) (X Y) :
    iprop(ctx A K ∗ SL lM c (nxt c) fullShare (wr A (nxt c) t) ∗ FL (prv c) (nxt c) t ∗ SLx rM c (nxt c) ∗ pos 3 c (nxt c) t ∗ owesX c (l3 c t) ∗ tok 4 c (nxt c) t ∗ pos 4 c (nxt c) t ∗ tok 5 (prv c) (nxt c) t ∗ XP A first c (prv c) ∗ XP A first c (nxt c) ∗ AL c X ∗ AR c Y ∗ SL rM c (prv c) fullShare.right (wl A (prv c) t))
      ⊢ iprop(((SL lM c (nxt c) fullShare.right (wr A (nxt c) t) ∗ pos 3 c (nxt c) t ∗ owesX c (l4 c t) ∗ crd 4 c (nxt c) t ∗ pos 4 c (nxt c) t ∗ XD A c (prv c) ∗ XD A c (nxt c) ∗ AL c (k0_pay7 X (unsq (xrow A (prv c) c)) (unsq (wl A (prv c) t))) ∗ AR c Y ∗ SL rM c (prv c) fullShare.right (wl A (prv c) t)) -∗ Q ⟨Scalar.remsi (Scalar.addi v2 1#32) 4#32, Y⟩)
          -∗ wp frame (wpE (defs₀ (F := F)) 𝒱₀ (c : Thread nD τ) none) Set.univ
            (k0_part4 i xS harg1 (wS (par t)) harg2 (Memref.whole cc0_stg2_0) harg3 (Memref.whole cc0_stg3_0) harg4 (oS s) harg5 xM harg6 rM harg7 lM harg8 aM harg9
              cc0_scratch4 cc0_scratch5 cc0_scratch6 cc0_scratch7 cc0_scratch8 cc0_scratch9 v0 c v2 v5 v7 h4 w) Q) := by
  rw [k0_part4_eq_skeleton]; unfold k0_part4_skel
  cases first
  · rw [dif_neg (fun h => Bool.noConfusion (h5.mp h))]
    simp only [Prog.lift, Prog.bind_op, Prog.bind_ret, Prog.pure_eq_ret]
    unfold XP XD
    rw [if_neg Bool.false_ne_true, if_neg Bool.false_ne_true]
    iintro ⟨#HC, I0, I1, I2, I3, I4, I5, I6, I7, I8, I9, I10, I11, I12⟩ Hk
    ihave H1 := (SL_halves lM c (nxt c) _).1 $$ I0
    icases H1 with ⟨H2, H3⟩
    ihave H4 := (give 3 rM c (nxt c) t) $$ [I2 I3]
    · isplitl [I2]; · iexact I2
      iexact I3
    icases H4 with ⟨H5, H6⟩
    iapply (copyL A K t c (nxt c) (nxt_ne c) (nxt_ne_prv c) (d10 c _) (slot_eq lM (nxt c) (o21_1 c) _ _ _) (slot_eq lM (nxt c) (o21_1 c) _ _ _) (sem_eq 4 (nxt c) (o20_1 c) _ _) (sem_eq 5 (nxt c) (o20_1 c) _ _) ht (l4 c t)) $$ [H2 I1 H5 I4 I5 I6 I7]
    · isplitr; · iexact HC
      isplitl [H2]; · iexact H2
      isplitl [I1]; · iexact I1
      isplitl [H5]; · iapply (Entails.of_eq (sxL1 c t).symm); iexact H5
      isplitl [I4]; · iexact I4
      isplitl [I5]; · iexact I5
      isplitl [I6]; · iexact I6
      iexact I7
    iintro ⟨H7, H8, H9⟩
    icases I8 with ⟨I8a, I8b⟩
    icases I9 with ⟨I9a, I9b⟩
    iapply (ld (M := aM) c ![0, 0] rfl inb_S1024x2048_S1024x1024_0_0) $$ I10
    iintro I10
    iapply (ldSlot c xM (prv c) (o26_1 c)) $$ I8a
    iintro I8a
    iapply (ldSlot c rM (prv c) (o26_1 c)) $$ I12
    iintro I12
    iapply (ld (M := aM) c ![0, 0] rfl inb_S1024x2048_S1024x1024_0_0) $$ I10
    iintro I10
    iapply (st (M := aM) c ![0, 0] rfl inb_S1024x2048_S1024x1024_0_0) $$ I10
    iintro H10
    iapply (ld (M := aM) c ![0, 1024] rfl inb_S1024x2048_S1024x1024_0_1024) $$ I11
    iintro I11
    rw [wp_ret]; imodintro
    iapply Hk
    isplitl [H3]; · iexact H3
    isplitl [H6]; · iexact H6
    isplitl [H8]; · iexact H8
    isplitl [H7]; · iexact H7
    isplitl [H9]; · iexact H9
    isplitl [I8a I8b]; · (isplitl [I8a]; iexact I8a; iexact I8b)
    isplitl [I9a I9b]; · (isplitl [I9a]; iexact I9a; iexact I9b)
    isplitl [H10]; · iexact H10
    isplitl [I11]; · iexact I11
    iexact I12
  · rw [dif_pos (h5.mpr rfl)]
    simp only [Prog.lift, Prog.bind_op, Prog.bind_ret, Prog.pure_eq_ret]
    unfold XP XD
    rw [if_pos rfl, if_pos rfl]
    iintro ⟨#HC, I0, I1, I2, I3, I4, I5, I6, I7, I8, I9, I10, I11, I12⟩ Hk
    ihave H1 := (SL_halves lM c (nxt c) _).1 $$ I0
    icases H1 with ⟨H2, H3⟩
    ihave H4 := (give 3 rM c (nxt c) t) $$ [I2 I3]
    · isplitl [I2]; · iexact I2
      iexact I3
    icases H4 with ⟨H5, H6⟩
    iapply (copyL A K t c (nxt c) (nxt_ne c) (nxt_ne_prv c) (d10 c _) (slot_eq lM (nxt c) (o21_1 c) _ _ _) (slot_eq lM (nxt c) (o21_1 c) _ _ _) (sem_eq 4 (nxt c) (o20_1 c) _ _) (sem_eq 5 (nxt c) (o20_1 c) _ _) ht (l4 c t)) $$ [H2 I1 H5 I4 I5 I6 I7]
    · isplitr; · iexact HC
      isplitl [H2]; · iexact H2
      isplitl [I1]; · iexact I1
      isplitl [H5]; · iapply (Entails.of_eq (sxL1 c t).symm); iexact H5
      isplitl [I4]; · iexact I4
      isplitl [I5]; · iexact I5
      isplitl [I6]; · iexact I6
      iexact I7
    iintro ⟨H7, H8, H9⟩
    icases I8 with ⟨I8a, I8b⟩
    iapply (waitD A K c 1 (prv c) (sem_eq 1 (prv c) (o22 c) _ _) 0 (by decide) (act1 (prv_ne c)) (l4 c t) (by rw [lv_x]; exact ab4 c ht (by omega)) (credit_any _)) $$ [I8a H8 I8b]
    · isplitr; · iexact HC
      isplitl [I8a]; · iexact I8a
      isplitl [H8]; · iexact H8
      iexact I8b
    iintro ⟨H10, H11, H12⟩
    ihave H12 := (Entails.of_eq (got1 A c (prv c) 0)) $$ H12
    icases H12 with H13
    icases I9 with ⟨I9a, I9b⟩
    iapply (waitD A K c 1 (nxt c) (sem_eq 1 (nxt c) (o24 c) _ _) 0 (by decide) (act1 (nxt_ne c)) (l4 c t) (by rw [lv_x]; exact ab4 c ht (by omega)) (credit_any _)) $$ [I9a H10 I9b]
    · isplitr; · iexact HC
      isplitl [I9a]; · iexact I9a
      isplitl [H10]; · iexact H10
      iexact I9b
    iintro ⟨H14, H15, H16⟩
    ihave H16 := (Entails.of_eq (got1 A c (nxt c) 0)) $$ H16
    icases H16 with H17
    iapply (ld (M := aM) c ![0, 0] rfl inb_S1024x2048_S1024x1024_0_0) $$ I10
    iintro I10
    iapply (ldSlot c xM (prv c) (o26_1 c)) $$ H13
    iintro H13
    iapply (ldSlot c rM (prv c) (o26_1 c)) $$ I12
    iintro I12
    iapply (ld (M := aM) c ![0, 0] rfl inb_S1024x2048_S1024x1024_0_0) $$ I10
    iintro I10
    iapply (st (M := aM) c ![0, 0] rfl inb_S1024x2048_S1024x1024_0_0) $$ I10
    iintro H18
    iapply (ld (M := aM) c ![0, 1024] rfl inb_S1024x2048_S1024x1024_0_1024) $$ I11
    iintro I11
    rw [wp_ret]; imodintro
    iapply Hk
    isplitl [H3]; · iexact H3
    isplitl [H6]; · iexact H6
    isplitl [H14]; · iexact H14
    isplitl [H7]; · iexact H7
    isplitl [H9]; · iexact H9
    isplitl [H13 H11]; · (isplitl [H13]; iexact H13; iexact H11)
    isplitl [H17 H15]; · (isplitl [H17]; iexact H17; iexact H15)
    isplitl [H18]; · iexact H18
    isplitl [I11]; · iexact I11
    iexact I12

/-- The right half gains its second term; the opposite device's tile lands from both sides. -/
theorem part5 {Q : BitVec 32 → sProp 𝕄} (i : grid0.Coords) (t : ℕ) (ht : t < 4) (s : Fin 2) (c : Dev nD) (h4 : k0_cond4 i = 1#1)
    {harg1 : xS.IsWhole} {harg2 : (wS (par t)).IsWhole} {harg3 : (Memref.whole cc0_stg2_0 : Memref sig .tc .smem S1 .f32).IsWhole} {harg4 : (Memref.whole cc0_stg3_0 : Memref sig .tc .smem S1 .f32).IsWhole}
    {harg5 : (oS s).IsWhole} {harg6 : xM.IsWhole} {harg7 : rM.IsWhole} {harg8 : lM.IsWhole} {harg9 : aM.IsWhole} (v2 v5 v7 w : BitVec 32) (Y) :
    iprop(ctx A K ∗ XD A c (nxt c) ∗ SL lM c (nxt c) fullShare.right (wr A (nxt c) t) ∗ AR c Y ∗ crd 3 c (opp c) t ∗ pos 3 c (opp c) t ∗ crd 5 c (opp c) t ∗ pos 5 c (opp c) t ∗ owesX c (l4 c t))
      ⊢ iprop(((XD A c (nxt c) ∗ SL lM c (nxt c) fullShare.right (wr A (nxt c) t) ∗ AR c (k0_pay8 Y (unsq (xrow A (nxt c) c)) (unsq (wr A (nxt c) t))) ∗ pos 3 c (opp c) (t + 1) ∗ pos 5 c (opp c) (t + 1) ∗ owesX c (l4 c t) ∗ SL rM c (opp c) fullShare (wl A (opp c) t) ∗ FL (prv c) (opp c) t ∗ SL lM c (opp c) fullShare (wr A (opp c) t) ∗ FR (nxt c) (opp c) t) -∗ Q (Scalar.subi (Scalar.addi v2 8#32) 2#32))
          -∗ wp frame (wpE (defs₀ (F := F)) 𝒱₀ (c : Thread nD τ) none) Set.univ
            (k0_part5 i xS harg1 (wS (par t)) harg2 (Memref.whole cc0_stg2_0) harg3 (Memref.whole cc0_stg3_0) harg4 (oS s) harg5 xM harg6 rM harg7 lM harg8 aM harg9
              cc0_scratch4 cc0_scratch5 cc0_scratch6 cc0_scratch7 cc0_scratch8 cc0_scratch9  c v2 v5 v7 h4 w Y) Q) := by
  rw [k0_part5_eq_skeleton]; unfold k0_part5_skel
  simp only [Prog.lift, Prog.bind_op, Prog.bind_ret, Prog.pure_eq_ret]
  unfold XD
  iintro ⟨#HC, I0, I1, I2, I3, I4, I5, I6, I7⟩ Hk
  icases I0 with ⟨Xa, Xb⟩
  iapply (ldSlot c xM (nxt c) (o27_1 c)) $$ Xa
  iintro Xa
  iapply (ldSlot c lM (nxt c) (o27_1 c)) $$ I1
  iintro I1
  iapply (ld (M := aM) c ![0, 1024] rfl inb_S1024x2048_S1024x1024_0_1024) $$ I2
  iintro I2
  iapply (st (M := aM) c ![0, 1024] rfl inb_S1024x2048_S1024x1024_0_1024) $$ I2
  iintro H1
  iapply (waitD A K c 3 (opp c) (sem_eq 3 (opp c) (o14_1 c) _ _) t ht (act3 (opp_ne c) ht) (l4 c t) (by rw [lv_r1]; exact ab4 c ht (by omega)) (credit_any _)) $$ [I3 I7 I4]
  · isplitr; · iexact HC
    isplitl [I3]; · iexact I3
    isplitl [I7]; · iexact I7
    iexact I4
  iintro ⟨H2, H3, H4⟩
  ihave H4 := (Entails.of_eq (got3 A c (opp c) t)) $$ H4
  icases H4 with ⟨H5, H6⟩
  ihave H7 := (Entails.of_eq (exR_opp c t)) $$ H6
  iapply (waitD A K c 5 (opp c) (sem_eq 5 (opp c) (o16_1 c) _ _) t ht (act5 (opp_ne c) ht) (l4 c t) (by rw [lv_l1]; exact ab4 c ht (by omega)) (credit_any _)) $$ [I5 H2 I6]
  · isplitr; · iexact HC
    isplitl [I5]; · iexact I5
    isplitl [H2]; · iexact H2
    iexact I6
  iintro ⟨H8, H9, H10⟩
  ihave H10 := (Entails.of_eq (got5 A c (opp c) t)) $$ H10
  icases H10 with ⟨H11, H12⟩
  ihave H13 := (Entails.of_eq (exL_opp c t)) $$ H12
  rw [wp_ret]; imodintro
  iapply Hk
  isplitl [Xa Xb]; · (isplitl [Xa]; iexact Xa; iexact Xb)
  isplitl [I1]; · iexact I1
  isplitl [H1]; · iexact H1
  isplitl [H3]; · iexact H3
  isplitl [H9]; · iexact H9
  isplitl [H8]; · iexact H8
  isplitl [H5]; · iexact H5
  isplitl [H7]; · iexact H7
  isplitl [H11]; · iexact H11
  iexact H13

/-- The forwards of the neighbours' tiles are done; the opposite device's tile goes on right. -/
theorem part6 {Q : PUnit → sProp 𝕄} (i : grid0.Coords) (t : ℕ) (ht : t < 4) (s : Fin 2) (c : Dev nD) (h4 : k0_cond4 i = 1#1)
    {harg1 : xS.IsWhole} {harg2 : (wS (par t)).IsWhole} {harg3 : (Memref.whole cc0_stg2_0 : Memref sig .tc .smem S1 .f32).IsWhole} {harg4 : (Memref.whole cc0_stg3_0 : Memref sig .tc .smem S1 .f32).IsWhole}
    {harg5 : (oS s).IsWhole} {harg6 : xM.IsWhole} {harg7 : rM.IsWhole} {harg8 : lM.IsWhole} {harg9 : aM.IsWhole} (v2 v5 v7 w : BitVec 32) :
    iprop(ctx A K ∗ crd 2 c (prv c) t ∗ pos 2 c (prv c) t ∗ SL rM c (prv c) fullShare.right (wl A (prv c) t) ∗ crd 4 c (nxt c) t ∗ pos 4 c (nxt c) t ∗ SL lM c (nxt c) fullShare.right (wr A (nxt c) t) ∗ owesX c (l4 c t) ∗ SL rM c (opp c) fullShare (wl A (opp c) t) ∗ FR (nxt c) (opp c) t ∗ pos 5 c (nxt c) (t + 1) ∗ tok 2 c (opp c) t ∗ pos 2 c (opp c) t ∗ tok 3 (nxt c) (opp c) t)
      ⊢ iprop(((pos 2 c (prv c) (t + 1) ∗ SLx rM c (prv c) ∗ pos 4 c (nxt c) (t + 1) ∗ keep lM c (nxt c) t ∗ owesX c (l5 c t) ∗ SL rM c (opp c) fullShare.right (wl A (opp c) t) ∗ crd 2 c (opp c) t ∗ pos 2 c (opp c) t ∗ pos 5 c (nxt c) (t + 1)) -∗ Q ⟨⟩)
          -∗ wp frame (wpE (defs₀ (F := F)) 𝒱₀ (c : Thread nD τ) none) Set.univ
            (k0_part6 i xS harg1 (wS (par t)) harg2 (Memref.whole cc0_stg2_0) harg3 (Memref.whole cc0_stg3_0) harg4 (oS s) harg5 xM harg6 rM harg7 lM harg8 aM harg9
              cc0_scratch4 cc0_scratch5 cc0_scratch6 cc0_scratch7 cc0_scratch8 cc0_scratch9  c v2 v5 v7 h4 w) Q) := by
  rw [k0_part6_eq_skeleton]; unfold k0_part6_skel
  simp only [Prog.lift, Prog.bind_op, Prog.bind_ret, Prog.pure_eq_ret]
  iintro ⟨#HC, I0, I1, I2, I3, I4, I5, I6, I7, I8, I9, I10, I11, I12⟩ Hk
  iapply (waitD A K c 2 (prv c) (sem_eq 2 (prv c) (o18_1 c) _ _) t ht (act2 (prv_ne_nxt c) ht) (l4 c t) (by rw [lv_s2]; exact ab4 c ht (by omega)) (credit_any _)) $$ [I0 I6 I1]
  · isplitr; · iexact HC
    isplitl [I0]; · iexact I0
    isplitl [I6]; · iexact I6
    iexact I1
  iintro ⟨H1, H2, H3⟩
  ihave H3 := (Entails.of_eq (got2 A (prv_ne c) t)) $$ H3
  icases H3 with H4
  ihave H5 := (SL_join rM c (prv c) _) $$ [H4 I2]
  · isplitl [H4]; · iexact H4
    iexact I2
  icases H5 with H6
  iapply (waitD A K c 4 (nxt c) (sem_eq 4 (nxt c) (o20_1 c) _ _) t ht (act4 (nxt_ne_prv c) ht) (l4 c t) (by rw [lv_s4]; exact ab4 c ht (by omega)) (credit_any _)) $$ [I3 H1 I4]
  · isplitr; · iexact HC
    isplitl [I3]; · iexact I3
    isplitl [H1]; · iexact H1
    iexact I4
  iintro ⟨H7, H8, H9⟩
  ihave H9 := (Entails.of_eq (got4 A (nxt_ne c) t)) $$ H9
  icases H9 with H10
  ihave H11 := (SL_join lM c (nxt c) _) $$ [H10 I5]
  · isplitl [H10]; · iexact H10
    iexact I5
  icases H11 with H12
  ihave H13 := (give_next 5 lM c (nxt c) t) $$ [H12 I9]
  · isplitl [H12]; · iexact H12
    iexact I9
  icases H13 with ⟨H14, H15, H16⟩
  ihave H17 := (SL_halves rM c (opp c) _).1 $$ I7
  icases H17 with ⟨H18, H19⟩
  iapply (copyR A K t c (opp c) (opp_ne c) (opp_ne_nxt c) (d11 c _) (slot_eq rM (opp c) (o19_2 c) _ _ _) (slot_eq rM (opp c) (o19_2 c) _ _ _) (sem_eq 2 (opp c) (o18_2 c) _ _) (sem_eq 3 (opp c) (o18_2 c) _ _) ht (l5 c t)) $$ [H18 I8 H14 H7 I10 I11 I12]
  · isplitr; · iexact HC
    isplitl [H18]; · iexact H18
    isplitl [I8]; · iexact I8
    isplitl [H14]; · iapply (Entails.of_eq (sxR2 c t).symm); iexact H14
    isplitl [H7]; · iexact H7
    isplitl [I10]; · iexact I10
    isplitl [I11]; · iexact I11
    iexact I12
  iintro ⟨H20, H21, H22⟩
  rw [wp_ret]; imodintro
  iapply Hk
  isplitl [H2]; · iexact H2
  isplitl [H6]; · iexact H6
  isplitl [H8]; · iexact H8
  isplitl [H15]; · iexact H15
  isplitl [H21]; · iexact H21
  isplitl [H19]; · iexact H19
  isplitl [H20]; · iexact H20
  isplitl [H22]; · iexact H22
  iexact H16

/-- The opposite device's tile goes on left; in the first step its rows are awaited; the left half gains its third term. -/
theorem part7 {Q : (Σ' (_ : Vec F S1024x1024 .f32) (_ : FVec F S1024x1024 .fp8e4m3) (_ : FVec F S1024x1024 .fp8e4m3), FVec F S1024x1024 .f32) → sProp 𝕄} (i : grid0.Coords) (t : ℕ) (ht : t < 4) (s : Fin 2) (c : Dev nD) (h4 : k0_cond4 i = 1#1)
    {harg1 : xS.IsWhole} {harg2 : (wS (par t)).IsWhole} {harg3 : (Memref.whole cc0_stg2_0 : Memref sig .tc .smem S1 .f32).IsWhole} {harg4 : (Memref.whole cc0_stg3_0 : Memref sig .tc .smem S1 .f32).IsWhole}
    {harg5 : (oS s).IsWhole} {harg6 : xM.IsWhole} {harg7 : rM.IsWhole} {harg8 : lM.IsWhole} {harg9 : aM.IsWhole} (first : Bool) (h6 : k0_cond6 i = 1#1 ↔ first = true) (v0 v2 v9 : BitVec 32) (X Y) :
    iprop(ctx A K ∗ SL lM c (opp c) fullShare (wr A (opp c) t) ∗ FL (prv c) (opp c) t ∗ SLx rM c (prv c) ∗ pos 3 c (prv c) (t + 1) ∗ owesX c (l5 c t) ∗ tok 4 c (opp c) t ∗ pos 4 c (opp c) t ∗ tok 5 (prv c) (opp c) t ∗ XP A first c (opp c) ∗ AL c X ∗ AR c Y ∗ SL rM c (opp c) fullShare.right (wl A (opp c) t))
      ⊢ iprop(((SL lM c (opp c) fullShare.right (wr A (opp c) t) ∗ keep rM c (prv c) t ∗ pos 3 c (prv c) (t + 1) ∗ owesX c (l6 c t) ∗ crd 4 c (opp c) t ∗ pos 4 c (opp c) t ∗ XD A c (opp c) ∗ AL c (k0_pay9 X (unsq (xrow A (opp c) c)) (unsq (wl A (opp c) t))) ∗ AR c Y ∗ SL rM c (opp c) fullShare.right (wl A (opp c) t)) -∗ Q ⟨Y, k0_pay10 (unsq (xrow A (opp c) c)), k0_pay11 (unsq (wr A (opp c) t)), constant S1024x1024 .f32 0x00000000#32⟩)
          -∗ wp frame (wpE (defs₀ (F := F)) 𝒱₀ (c : Thread nD τ) none) Set.univ
            (k0_part7 i xS harg1 (wS (par t)) harg2 (Memref.whole cc0_stg2_0) harg3 (Memref.whole cc0_stg3_0) harg4 (oS s) harg5 xM harg6 rM harg7 lM harg8 aM harg9
              cc0_scratch4 cc0_scratch5 cc0_scratch6 cc0_scratch7 cc0_scratch8 cc0_scratch9 v0 c v2 v9 h4) Q) := by
  rw [k0_part7_eq_skeleton]; unfold k0_part7_skel
  cases first
  · rw [dif_neg (fun h => Bool.noConfusion (h6.mp h))]
    simp only [Prog.lift, Prog.bind_op, Prog.bind_ret, Prog.pure_eq_ret]
    unfold XP XD
    rw [if_neg Bool.false_ne_true]
    iintro ⟨#HC, I0, I1, I2, I3, I4, I5, I6, I7, I8, I9, I10, I11⟩ Hk
    ihave H1 := (SL_halves lM c (opp c) _).1 $$ I0
    icases H1 with ⟨H2, H3⟩
    ihave H4 := (give_next 3 rM c (prv c) t) $$ [I2 I3]
    · isplitl [I2]; · iexact I2
      iexact I3
    icases H4 with ⟨H5, H6, H7⟩
    iapply (copyL A K t c (opp c) (opp_ne c) (opp_ne_prv c) (d12 c _) (slot_eq lM (opp c) (o21_2 c) _ _ _) (slot_eq lM (opp c) (o21_2 c) _ _ _) (sem_eq 4 (opp c) (o20_2 c) _ _) (sem_eq 5 (opp c) (o20_2 c) _ _) ht (l6 c t)) $$ [H2 I1 H5 I4 I5 I6 I7]
    · isplitr; · iexact HC
      isplitl [H2]; · iexact H2
      isplitl [I1]; · iexact I1
      isplitl [H5]; · iapply (Entails.of_eq (sxL2 c t).symm); iexact H5
      isplitl [I4]; · iexact I4
      isplitl [I5]; · iexact I5
      isplitl [I6]; · iexact I6
      iexact I7
    iintro ⟨H8, H9, H10⟩
    icases I8 with ⟨I8a, I8b⟩
    iapply (ld (M := aM) c ![0, 0] rfl inb_S1024x2048_S1024x1024_0_0) $$ I9
    iintro I9
    iapply (ldSlot c xM (opp c) (o26_2 c)) $$ I8a
    iintro I8a
    iapply (ldSlot c rM (opp c) (o26_2 c)) $$ I11
    iintro I11
    iapply (ld (M := aM) c ![0, 0] rfl inb_S1024x2048_S1024x1024_0_0) $$ I9
    iintro I9
    iapply (st (M := aM) c ![0, 0] rfl inb_S1024x2048_S1024x1024_0_0) $$ I9
    iintro H11
    iapply (ld (M := aM) c ![0, 1024] rfl inb_S1024x2048_S1024x1024_0_1024) $$ I10
    iintro I10
    iapply (ldSlot c xM (opp c) (o27_2 c)) $$ I8a
    iintro I8a
    iapply (ldSlot c lM (opp c) (o27_2 c)) $$ H3
    iintro H3
    rw [wp_ret]; imodintro
    iapply Hk
    isplitl [H3]; · iexact H3
    isplitl [H6]; · iexact H6
    isplitl [H7]; · iexact H7
    isplitl [H9]; · iexact H9
    isplitl [H8]; · iexact H8
    isplitl [H10]; · iexact H10
    isplitl [I8a I8b]; · (isplitl [I8a]; iexact I8a; iexact I8b)
    isplitl [H11]; · iexact H11
    isplitl [I10]; · iexact I10
    iexact I11
  · rw [dif_pos (h6.mpr rfl)]
    simp only [Prog.lift, Prog.bind_op, Prog.bind_ret, Prog.pure_eq_ret]
    unfold XP XD
    rw [if_pos rfl]
    iintro ⟨#HC, I0, I1, I2, I3, I4, I5, I6, I7, I8, I9, I10, I11⟩ Hk
    ihave H1 := (SL_halves lM c (opp c) _).1 $$ I0
    icases H1 with ⟨H2, H3⟩
    ihave H4 := (give_next 3 rM c (prv c) t) $$ [I2 I3]
    · isplitl [I2]; · iexact I2
      iexact I3
    icases H4 with ⟨H5, H6, H7⟩
    iapply (copyL A K t c (opp c) (opp_ne c) (opp_ne_prv c) (d12 c _) (slot_eq lM (opp c) (o21_2 c) _ _ _) (slot_eq lM (opp c) (o21_2 c) _ _ _) (sem_eq 4 (opp c) (o20_2 c) _ _) (sem_eq 5 (opp c) (o20_2 c) _ _) ht (l6 c t)) $$ [H2 I1 H5 I4 I5 I6 I7]
    · isplitr; · iexact HC
      isplitl [H2]; · iexact H2
      isplitl [I1]; · iexact I1
      isplitl [H5]; · iapply (Entails.of_eq (sxL2 c t).symm); iexact H5
      isplitl [I4]; · iexact I4
      isplitl [I5]; · iexact I5
      isplitl [I6]; · iexact I6
      iexact I7
    iintro ⟨H8, H9, H10⟩
    icases I8 with ⟨I8a, I8b⟩
    iapply (waitD A K c 1 (opp c) (sem_eq 1 (opp c) (o28 c) _ _) 0 (by decide) (act1 (opp_ne c)) (l6 c t) (by rw [lv_x]; exact ab6 c (by omega)) (credit_any _)) $$ [I8a H9 I8b]
    · isplitr; · iexact HC
      isplitl [I8a]; · iexact I8a
      isplitl [H9]; · iexact H9
      iexact I8b
    iintro ⟨H11, H12, H13⟩
    ihave H13 := (Entails.of_eq (got1 A c (opp c) 0)) $$ H13
    icases H13 with H14
    iapply (ld (M := aM) c ![0, 0] rfl inb_S1024x2048_S1024x1024_0_0) $$ I9
    iintro I9
    iapply (ldSlot c xM (opp c) (o26_2 c)) $$ H14
    iintro H14
    iapply (ldSlot c rM (opp c) (o26_2 c)) $$ I11
    iintro I11
    iapply (ld (M := aM) c ![0, 0] rfl inb_S1024x2048_S1024x1024_0_0) $$ I9
    iintro I9
    iapply (st (M := aM) c ![0, 0] rfl inb_S1024x2048_S1024x1024_0_0) $$ I9
    iintro H15
    iapply (ld (M := aM) c ![0, 1024] rfl inb_S1024x2048_S1024x1024_0_1024) $$ I10
    iintro I10
    iapply (ldSlot c xM (opp c) (o27_2 c)) $$ H14
    iintro H14
    iapply (ldSlot c lM (opp c) (o27_2 c)) $$ H3
    iintro H3
    rw [wp_ret]; imodintro
    iapply Hk
    isplitl [H3]; · iexact H3
    isplitl [H6]; · iexact H6
    isplitl [H7]; · iexact H7
    isplitl [H11]; · iexact H11
    isplitl [H8]; · iexact H8
    isplitl [H10]; · iexact H10
    isplitl [H14 H12]; · (isplitl [H14]; iexact H14; iexact H12)
    isplitl [H15]; · iexact H15
    isplitl [I10]; · iexact I10
    iexact I11

/-- The right half gains its third term; the last tiles land; the last forward right is done. -/
theorem part8 {Q : PUnit → sProp 𝕄} (i : grid0.Coords) (t : ℕ) (ht : t < 4) (s : Fin 2) (c : Dev nD) (h4 : k0_cond4 i = 1#1)
    {harg1 : xS.IsWhole} {harg2 : (wS (par t)).IsWhole} {harg3 : (Memref.whole cc0_stg2_0 : Memref sig .tc .smem S1 .f32).IsWhole} {harg4 : (Memref.whole cc0_stg3_0 : Memref sig .tc .smem S1 .f32).IsWhole}
    {harg5 : (oS s).IsWhole} {harg6 : xM.IsWhole} {harg7 : rM.IsWhole} {harg8 : lM.IsWhole} {harg9 : aM.IsWhole} (v5 v7 : BitVec 32) (Y X10 X11 X12) :
    iprop(ctx A K ∗ AR c Y ∗ crd 3 c (nxt c) t ∗ pos 3 c (nxt c) t ∗ crd 5 c (prv c) t ∗ pos 5 c (prv c) t ∗ crd 2 c (opp c) t ∗ pos 2 c (opp c) t ∗ SL rM c (opp c) fullShare.right (wl A (opp c) t) ∗ owesX c (l6 c t))
      ⊢ iprop(((AR c (k0_pay12 Y X10 X11 X12) ∗ pos 3 c (nxt c) (t + 1) ∗ SL rM c (nxt c) fullShare (wl A (nxt c) t) ∗ (if t + 1 < 4 then FL (prv c) c (t + 1) else iprop(emp)) ∗ pos 5 c (prv c) (t + 1) ∗ SL lM c (prv c) fullShare (wr A (prv c) t) ∗ (if t + 1 < 4 then FR (nxt c) c (t + 1) else iprop(emp)) ∗ pos 2 c (opp c) (t + 1) ∗ SLx rM c (opp c) ∗ owesX c (l6 c t)) -∗ Q ⟨⟩)
          -∗ wp frame (wpE (defs₀ (F := F)) 𝒱₀ (c : Thread nD τ) none) Set.univ
            (k0_part8 i xS harg1 (wS (par t)) harg2 (Memref.whole cc0_stg2_0) harg3 (Memref.whole cc0_stg3_0) harg4 (oS s) harg5 xM harg6 rM harg7 lM harg8 aM harg9
              cc0_scratch4 cc0_scratch5 cc0_scratch6 cc0_scratch7 cc0_scratch8 cc0_scratch9  c v5 v7 h4 Y X10 X11 X12) Q) := by
  rw [k0_part8_eq_skeleton]; unfold k0_part8_skel
  simp only [Prog.lift, Prog.bind_op, Prog.bind_ret, Prog.pure_eq_ret]
  iintro ⟨#HC, I0, I1, I2, I3, I4, I5, I6, I7, I8⟩ Hk
  iapply (ld (M := aM) c ![0, 1024] rfl inb_S1024x2048_S1024x1024_0_1024) $$ I0
  iintro I0
  iapply (st (M := aM) c ![0, 1024] rfl inb_S1024x2048_S1024x1024_0_1024) $$ I0
  iintro H1
  iapply (waitD A K c 3 (nxt c) (sem_eq 3 (nxt c) (o14_2 c) _ _) t ht (act3 (nxt_ne c) ht) (l6 c t) (by rw [lv_r2]; exact ab6 c (by omega)) (credit_any _)) $$ [I1 I8 I2]
  · isplitr; · iexact HC
    isplitl [I1]; · iexact I1
    isplitl [I8]; · iexact I8
    iexact I2
  iintro ⟨H2, H3, H4⟩
  ihave H4 := (Entails.of_eq (got3 A c (nxt c) t)) $$ H4
  icases H4 with ⟨H5, H6⟩
  ihave H7 := (Entails.of_eq (exR_nxt c t)) $$ H6
  iapply (waitD A K c 5 (prv c) (sem_eq 5 (prv c) (o16_2 c) _ _) t ht (act5 (prv_ne c) ht) (l6 c t) (by rw [lv_l2]; exact ab6 c (by omega)) (credit_any _)) $$ [I3 H2 I4]
  · isplitr; · iexact HC
    isplitl [I3]; · iexact I3
    isplitl [H2]; · iexact H2
    iexact I4
  iintro ⟨H8, H9, H10⟩
  ihave H10 := (Entails.of_eq (got5 A c (prv c) t)) $$ H10
  icases H10 with ⟨H11, H12⟩
  ihave H13 := (Entails.of_eq (exL_prv c t)) $$ H12
  iapply (waitD A K c 2 (opp c) (sem_eq 2 (opp c) (o18_2 c) _ _) t ht (act2 (opp_ne_nxt c) ht) (l6 c t) (by rw [lv_s2]; exact ab6 c (by omega)) (credit_any _)) $$ [I5 H8 I6]
  · isplitr; · iexact HC
    isplitl [I5]; · iexact I5
    isplitl [H8]; · iexact H8
    iexact I6
  iintro ⟨H14, H15, H16⟩
  ihave H16 := (Entails.of_eq (got2 A (opp_ne c) t)) $$ H16
  icases H16 with H17
  ihave H18 := (SL_join rM c (opp c) _) $$ [H17 I7]
  · isplitl [H17]; · iexact H17
    iexact I7
  icases H18 with H19
  rw [wp_ret]; imodintro
  iapply Hk
  isplitl [H1]; · iexact H1
  isplitl [H3]; · iexact H3
  isplitl [H5]; · iexact H5
  isplitl [H7]; · iexact H7
  isplitl [H9]; · iexact H9
  isplitl [H11]; · iexact H11
  isplitl [H13]; · iexact H13
  isplitl [H15]; · iexact H15
  isplitl [H19]; · iexact H19
  iexact H14

end Cert.KernelIdealRun
-- ==== Proof.KernelIdealPieces.lean ====
/-
# Tiles, rows and slots; the barrier's rules

Splitting a staged tile into halves, the activations into row blocks and a buffer into slots, and joining them again;
signalling and taking the barrier.
-/
module

public import proofs.«01_k».proof.Proof.KernelIdealParts

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Args F) (K : Dev nD × Fin 25 → ℕ)

/-! ## Splitting and joining -/

/-- Two halves side by side. -/
def joinLR {α : Type} (X Y : S1024x1024.Idx → α) : S1024x2048.Idx → α := fun i =>
  if h : (i 1).val < 1024 then X (fun | 0 => ⟨(i 0).val, (i 0).isLt⟩ | 1 => ⟨(i 1).val, h⟩)
  else Y (fun | 0 => ⟨(i 0).val, (i 0).isLt⟩ | 1 => ⟨(i 1).val - 1024, by have := (i 1).isLt; change (i 1).val < 2048 at this; show (i 1).val - 1024 < 1024; omega⟩)

/-- The left half of two halves. -/
theorem joinLR_l {α : Type} (X Y : S1024x1024.Idx → α) : (fun j => joinLR X Y (rectL.emb j)) = X := by
  funext j
  have h1 : ((rectL.emb j) 1).val = (j 1).val := by show 0 + 1 * (j 1).val = _; omega
  have h0 : ((rectL.emb j) 0).val = (j 0).val := by show 0 + 1 * (j 0).val = _; omega
  have hj : (j 1).val < 1024 := (j 1).isLt
  unfold joinLR
  rw [dif_pos (by rw [h1]; exact hj)]
  congr 1; funext a
  match a with
  | 0 => exact Fin.ext h0
  | 1 => exact Fin.ext h1
/-- The right half. -/
theorem joinLR_r {α : Type} (X Y : S1024x1024.Idx → α) : (fun j => joinLR X Y (rectR.emb j)) = Y := by
  funext j
  have h1 : ((rectR.emb j) 1).val = 1024 + (j 1).val := by show 1024 + 1 * (j 1).val = _; omega
  have h0 : ((rectR.emb j) 0).val = (j 0).val := by show 0 + 1 * (j 0).val = _; omega
  unfold joinLR
  rw [dif_neg (by rw [h1]; omega)]
  congr 1; funext a
  match a with
  | 0 => exact Fin.ext h0
  | 1 => exact Fin.ext (by show ((rectR.emb j) 1).val - 1024 = (j 1).val; omega)

/-- The two halves as a family. -/
abbrev rectLR (b : Bool) : Rect S1024x2048 := if b then rectR else rectL
/-- They do not meet. -/
theorem lr_disjoint : ∀ t t' : Bool, t ≠ t' → Disjoint (rectLR t).set (rectLR t').set
  | false, false, h | true, true, h => absurd rfl h
  | false, true, _ => Rect.unit_disjoint (s := S1024x2048) (inb := inb_S1024x2048_S1024x1024_0_0) (inb' := inb_S1024x2048_S1024x1024_0_1024) 1 (.inl (by decide))
  | true, false, _ => Rect.unit_disjoint (s := S1024x2048) (inb := inb_S1024x2048_S1024x1024_0_1024) (inb' := inb_S1024x2048_S1024x1024_0_0) 1 (.inr (by decide))
/-- They cover the tile. -/
theorem lr_cover : (Finset.univ : Finset Bool).biUnion (fun t => (rectLR t).set) = Finset.univ := by
  ext i
  refine ⟨fun _ => Finset.mem_univ _, fun _ => Finset.mem_biUnion.mpr ?_⟩
  have h0 : (i 0).val < 1024 := (i 0).isLt
  have h1 : (i 1).val < 2048 := (i 1).isLt
  by_cases h : (i 1).val < 1024
  · refine ⟨false, Finset.mem_univ _, (Rect.mem_set_unit (inb := inb_S1024x2048_S1024x1024_0_0)).mpr fun a => ?_⟩
    match a with
    | 0 => exact ⟨Nat.zero_le _, by show (i 0).val < 0 + 1024; omega⟩
    | 1 => exact ⟨Nat.zero_le _, by show (i 1).val < 0 + 1024; omega⟩
  · refine ⟨true, Finset.mem_univ _, (Rect.mem_set_unit (inb := inb_S1024x2048_S1024x1024_0_1024)).mpr fun a => ?_⟩
    match a with
    | 0 => exact ⟨Nat.zero_le _, by show (i 0).val < 0 + 1024; omega⟩
    | 1 => exact ⟨by show 1024 ≤ (i 1).val; omega, by show (i 1).val < 1024 + 1024; omega⟩
/-- A family of two. -/
theorem bigSep_bool (P : Bool → sProp 𝕄) : bigSep Finset.univ P = iprop(P false ∗ P true) := by
  rw [bigSep_univ_eq_bigSepL [false, true] (by decide) (by decide), bigSepL_cons_cons, bigSepL_singleton]; rfl
/-- A family over the devices, from one of them round the ring. -/
theorem bigSep_dev (c : Dev nD) (P : Dev nD → sProp 𝕄) : bigSep Finset.univ P = iprop(P c ∗ P (nxt c) ∗ P (opp c) ∗ P (prv c)) := by
  rw [bigSep_univ_eq_bigSepL [c, nxt c, opp c, prv c] (by revert c; decide) (by revert c; decide), bigSepL_cons_cons, bigSepL_cons_cons, bigSepL_cons_cons, bigSepL_singleton]; rfl

/-- A tile into its halves. -/
theorem tile_split {e : EltTy} (c : Dev nD) (M : Memref sig .tc .vmem S1024x2048 e) (q : PosShare TreeShare) (X : S1024x2048.Idx → Elt F e) :
    (ownsTc c M q X : sProp 𝕄) ⊢ iprop(ownsTc c (M.slice rectL (fun _ => rfl)) q (fun j => X (rectL.emb j)) ∗ ownsTc c (M.slice rectR (fun _ => rfl)) q (fun j => X (rectR.emb j))) :=
  (owns_rects (c : Thread nD τ) M q rectLR (fun t a => by cases t <;> rfl) lr_disjoint lr_cover X).trans (Entails.of_eq (bigSep_bool _))
/-- Halves into the tile. -/
theorem tile_join {e : EltTy} (c : Dev nD) (M : Memref sig .tc .vmem S1024x2048 e) (q : PosShare TreeShare) (X : S1024x2048.Idx → Elt F e) :
    iprop(ownsTc c (M.slice rectL (fun _ => rfl)) q (fun j => X (rectL.emb j)) ∗ ownsTc c (M.slice rectR (fun _ => rfl)) q (fun j => X (rectR.emb j))) ⊢ (ownsTc c M q X : sProp 𝕄) :=
  BIBase.Entails.trans (Entails.of_eq (bigSep_bool (fun t => ownsTc c (M.slice (rectLR t) (fun a => by cases t <;> rfl)) q (fun j => X ((rectLR t).emb j)))).symm)
    (owns_of_rects (c : Thread nD τ) M q rectLR (fun t a => by cases t <;> rfl) lr_disjoint lr_cover X)
/-- Any halves into the tile. -/
theorem tile_joinLR {e : EltTy} (c : Dev nD) (M : Memref sig .tc .vmem S1024x2048 e) (q : PosShare TreeShare) (X Y : S1024x1024.Idx → Elt F e) :
    iprop(ownsTc c (M.slice rectL (fun _ => rfl)) q X ∗ ownsTc c (M.slice rectR (fun _ => rfl)) q Y) ⊢ (ownsTc c M q (joinLR X Y) : sProp 𝕄) := by
  have h := tile_join c M q (joinLR X Y)
  rw [joinLR_l, joinLR_r] at h; exact h

/-- Row blocks do not meet. -/
theorem row_disjoint (t t' : Dev nD) (h : t ≠ t') : Disjoint (rowRect t).set (rowRect t').set :=
  Rect.unit_disjoint 0 (by
    have h' : t.val ≠ t'.val := fun e => h (Fin.ext e)
    show 1024 * t.val + 1024 ≤ 1024 * t'.val ∨ 1024 * t'.val + 1024 ≤ 1024 * t.val; omega)
/-- They cover the activations. -/
theorem row_cover : (Finset.univ : Finset (Dev nD)).biUnion (fun t => (rowRect t).set) = Finset.univ := by
  ext i
  refine ⟨fun _ => Finset.mem_univ _, fun _ => Finset.mem_biUnion.mpr ?_⟩
  have h0 : (i 0).val < 4096 := (i 0).isLt
  have h1 : (i 1).val < 1024 := (i 1).isLt
  refine ⟨⟨(i 0).val / 1024, by show _ < 4; omega⟩, Finset.mem_univ _, Rect.mem_set_unit.mpr fun a => ?_⟩
  match a with
  | 0 => exact ⟨by show 1024 * ((i 0).val / 1024) ≤ (i 0).val; omega, by show (i 0).val < 1024 * ((i 0).val / 1024) + 1024; omega⟩
  | 1 => exact ⟨Nat.zero_le _, by show (i 1).val < 0 + 1024; omega⟩
/-- The staged activations are their row blocks. -/
theorem rows_split (c : Dev nD) : (ownsTc c xS fullShare (A.x c) : sProp 𝕄) ⊢ iprop(XR A c c ∗ XR A c (nxt c) ∗ XR A c (opp c) ∗ XR A c (prv c)) :=
  (owns_rects (c : Thread nD τ) xS fullShare rowRect (fun _ _ => rfl) row_disjoint row_cover (A.x c)).trans (Entails.of_eq (bigSep_dev c (fun o => XR A c o)))
/-- And back. -/
theorem rows_join (c : Dev nD) : iprop(XR A c c ∗ XR A c (nxt c) ∗ XR A c (opp c) ∗ XR A c (prv c)) ⊢ (ownsTc c xS fullShare (A.x c) : sProp 𝕄) :=
  BIBase.Entails.trans (Entails.of_eq (bigSep_dev c (fun o => XR A c o)).symm)
    (owns_of_rects (c : Thread nD τ) xS fullShare rowRect (fun _ _ => rfl) row_disjoint row_cover (A.x c))

/-- Slots do not meet. -/
theorem slot_disjoint (t t' : Dev nD) (h : t ≠ t') : Disjoint (slotRect t).set (slotRect t').set :=
  Rect.unit_disjoint 0 (by
    have h' : t.val ≠ t'.val := fun e => h (Fin.ext e)
    show t.val + 1 ≤ t'.val ∨ t'.val + 1 ≤ t.val; omega)
/-- They cover the buffer. -/
theorem slot_cover : (Finset.univ : Finset (Dev nD)).biUnion (fun t => (slotRect t).set) = Finset.univ := by
  ext i
  refine ⟨fun _ => Finset.mem_univ _, fun _ => Finset.mem_biUnion.mpr ?_⟩
  have h0 : (i 0).val < 4 := (i 0).isLt
  have h1 : (i 1).val < 1024 := (i 1).isLt
  have h2 : (i 2).val < 1024 := (i 2).isLt
  refine ⟨⟨(i 0).val, h0⟩, Finset.mem_univ _, Rect.mem_set_unit.mpr fun a => ?_⟩
  match a with
  | 0 => exact ⟨Nat.le_refl _, Nat.lt_succ_self _⟩
  | 1 => exact ⟨Nat.zero_le _, by show (i 1).val < 0 + 1024; omega⟩
  | 2 => exact ⟨Nat.zero_le _, by show (i 2).val < 0 + 1024; omega⟩
/-- Slot contents of three axes are some of two. -/
theorem unsq_surj {α : Type} (X : S1x1024x1024.Idx → α) : ∃ w, unsq w = X :=
  ⟨fun i => X (Shape.reshapeEquiv squeezes_S1x1024x1024_S1024x1024.numel_eq i), funext fun i => congrArg X (Equiv.apply_symm_apply _ i)⟩
/-- A slot at any three-axis contents. -/
theorem slot_any (c : Dev nD) (M : Memref sig .tc .vmem S4x1024x1024 .fp8e4m3) (o : Dev nD) (X : S1x1024x1024.Idx → Elt F .fp8e4m3) :
    (ownsTc c (slot M o) fullShare X : sProp 𝕄) ⊢ SLx M c o := by
  obtain ⟨w, rfl⟩ := unsq_surj X
  exact SL_any M c o w
/-- A buffer at any contents is its slots at any contents. -/
theorem slots_split (c : Dev nD) (M : Memref sig .tc .vmem S4x1024x1024 .fp8e4m3) (X : S4x1024x1024.Idx → Elt F .fp8e4m3) :
    (ownsTc c M fullShare X : sProp 𝕄) ⊢ iprop(SLx M c c ∗ SLx M c (nxt c) ∗ SLx M c (opp c) ∗ SLx M c (prv c)) :=
  ((owns_rects (c : Thread nD τ) M fullShare slotRect (fun _ _ => rfl) slot_disjoint slot_cover X).trans
    (bigSep_mono fun o _ => slot_any c M o _)).trans (Entails.of_eq (bigSep_dev c (fun o => SLx M c o)))
/-- Four slots' contents as one buffer's. -/
def slotsOf {α : Type} (w : Dev nD → S1024x1024.Idx → α) : S4x1024x1024.Idx → α := fun i =>
  unsq (w ⟨(i 0).val, (i 0).isLt⟩) (fun | 0 => ⟨0, Nat.one_pos⟩ | 1 => ⟨(i 1).val, (i 1).isLt⟩ | 2 => ⟨(i 2).val, (i 2).isLt⟩)
/-- Read at a slot. -/
theorem slotsOf_slot {α : Type} (w : Dev nD → S1024x1024.Idx → α) (o : Dev nD) : (fun j => slotsOf w ((slotRect o).emb j)) = unsq (w o) := by
  funext j
  have hj : (j 0).val < 1 := (j 0).isLt
  have h0 : ((slotRect o).emb j 0).val = o.val + 1 * (j 0).val := rfl
  have h1 : ((slotRect o).emb j 1).val = 0 + 1 * (j 1).val := rfl
  have h2 : ((slotRect o).emb j 2).val = 0 + 1 * (j 2).val := rfl
  have ho : (⟨((slotRect o).emb j 0).val, ((slotRect o).emb j 0).isLt⟩ : Dev nD) = o := Fin.ext (by show ((slotRect o).emb j 0).val = o.val; omega)
  unfold slotsOf
  rw [ho]
  congr 1; funext a
  match a with
  | 0 => exact Fin.ext (by show 0 = (j 0).val; omega)
  | 1 => exact Fin.ext (by show ((slotRect o).emb j 1).val = (j 1).val; omega)
  | 2 => exact Fin.ext (by show ((slotRect o).emb j 2).val = (j 2).val; omega)
/-- Slots at any contents are the buffer at some. -/
theorem slots_join (c : Dev nD) (M : Memref sig .tc .vmem S4x1024x1024 .fp8e4m3) :
    iprop(SLx M c c ∗ SLx M c (nxt c) ∗ SLx M c (opp c) ∗ SLx M c (prv c)) ⊢ (iprop(∃ X, ownsTc c M fullShare X) : sProp 𝕄) := by
  refine BIBase.Entails.trans (Entails.of_eq (bigSep_dev c (fun o => SLx M c o)).symm) ?_
  haveI : Nonempty (S1024x1024.Idx → Elt F .fp8e4m3) := ⟨fun _ => Classical.choice (Elt.nonempty F .fp8e4m3)⟩
  refine (bigSep_exists_pi Finset.univ (fun o w => SL (F := F) M c o fullShare w)).trans ?_
  iintro ⟨%w, H⟩
  iexists slotsOf w
  have h : (bigSep Finset.univ (fun o => SL M c o fullShare (w o)) : sProp 𝕄) ⊢ ownsTc c M fullShare (slotsOf w) :=
    BIBase.Entails.trans (bigSep_mono fun o _ => Entails.of_eq (congrArg (ownsTc c (slot M o) fullShare) (slotsOf_slot w o).symm))
      (owns_of_rects (c : Thread nD τ) M fullShare slotRect (fun _ _ => rfl) slot_disjoint slot_cover (slotsOf w))
  iapply h; iexact H

/-! ## The barrier -/

/-- The right to raise a unit of a device's barrier. -/
def btok (d : Dev nD) (j : Fin 3) : sProp 𝕄 := dutyTok ER (bcell d) 0 j
/-- The barrier's round, open or taken. -/
def bpos (c : Dev nD) (r : ℕ) : sProp 𝕄 := atPos ER (bcell c) r ∅ 0

/-- Raising a unit of another device's barrier. -/
theorem sigB {α : Type} {Q : α → sProp 𝕄} (c d : Dev nD) {d' : Dev nD} (hd : d' = d) (j : Fin 3) (l : List (GSem nD τ sig × ℕ × ℕ))
    {kk : PUnit → Prog (TpuEff nD τ sig (Elt F) Λ₀ .tc) α} :
    iprop(ctx A K ∗ owesX c ((bcell d, 0, 1) :: l) ∗ btok d j ∗ bpay d j ∗ reached ER (bcell d) 0)
      ⊢ iprop((owesX c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (d', .tc) barrier0 (1#32).toInt) kk) Q) := by
  subst hd
  unfold ctx owesX btok
  iintro ⟨⟨#HI, #Hl⟩, ⟨%W, HO⟩, Ht, Hp, #Hr⟩ Hk
  iapply (Rounds.wp_signal 𝒱₀ ER (Rd A) (c : Thread nD τ) none (dst := (d' : Thread nD τ)) (κ := K (d', 0))
      (d := j) (by rw [duties_bar]; exact Finset.mem_univ _) ((amount_bar A d' 0 j).trans (by decide)) 0 (oblig l) rfl (W := W))
    $$ [HO Ht Hp]
  · isplitr; · iapply (inv_bar A K d'); iexact HI
    isplitl [HO]; · iexact HO
    isplitl [Ht]; · iexact Ht
    isplitl [Hp]; · rw [payload_bar]; iexact Hp
    iexact Hr
  iintro HO
  iapply Hk
  iexists W; iexact HO

/-- Taking the own barrier. -/
theorem waitB {α : Type} {Q : α → sProp 𝕄} (c : Dev nD) (l : List (GSem nD τ sig × ℕ × ℕ)) (hl : ∀ e ∈ l, Above 1 e)
    {kk : PUnit → Prog (TpuEff nD τ sig (Elt F) Λ₀ .tc) α} :
    iprop(ctx A K ∗ cred (tallyAt (bcell c) 0 3) ∗ owesX c l ∗ bpos c 0)
      ⊢ iprop(((owesX c l ∗ bpos c 1 ∗ bpay c 0 ∗ bpay c 1 ∗ bpay c 2) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barrier0 (3#32).toInt) kk) Q) := by
  unfold ctx owesX bpos
  iintro ⟨⟨#HI, #Hl⟩, Hc, ⟨%W, HO⟩, Hat⟩ Hk
  iapply (Rounds.wp_wait_rest_token 𝒱₀ ER (Rd A) (c : Thread nD τ) none (κ := K (c, 0))
      (wpE_semWait_eq 𝒱₀ (c : Thread nD τ) none Set.univ) (Set.mem_univ _) 0 (O := oblig l) (W := W) (R := 0) (m := 0) (T := ∅)
      (by rw [expect_bar]; decide)) $$ [Hc HO Hat]
  · isplitr; · iapply (inv_bar A K c); iexact HI
    isplitl [Hc]; · iexact Hc
    isplitl [HO]; · iexact HO
    isplitr; · iapply (mayWait c barS 0 (by decide) l hl); iexact Hl
    iexact Hat
  iintro ⟨HO, Hat, -, Hp⟩
  iapply Hk
  isplitl [HO]; · iexists _; iexact HO
  isplitl [Hat]; · iexact Hat
  iapply (Entails.of_eq (rest_bar A c)); iexact Hp

/-- What the own rows are stored as is the slot read on three axes. -/
theorem pay4_unsq (w : S1024x1024.Idx → Elt F .fp8e4m3) : k0_pay4 (F := F) w = unsq w := by
  funext i
  unfold k0_pay4 unsq shapeCast
  rw [Shape.reshapeEquiv_symm]
  exact congrArg w (Shape.reshapeEquiv_self _ _)

/-- The scale's one element, wherever it is read. -/
theorem s1_idx (a b : S1.Idx) : a = b := by
  funext i
  have h1 : (a i).val < 1 := by have := (a i).isLt; revert this; match i with | 0 => exact id
  have h2 : (b i).val < 1 := by have := (b i).isLt; revert this; match i with | 0 => exact id
  exact Fin.ext (by omega)

end Cert.KernelIdealRun
-- ==== Proof.KernelIdealState.lean ====
/-
# What a device holds between steps

The accumulator after a step, the result tiles, and the bundles of slots, rounds, rights and credits held between two steps.
-/
module

public import proofs.«01_k».proof.Proof.KernelIdealPieces

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Args F) (K : Dev nD × Fin 25 → ℕ)

/-! ## Contents -/

/-- The accumulator's left half after step `t`: three of the four devices' products. -/
def accL (c : Dev nD) (t : ℕ) : S1024x1024.Idx → Elt F .f32 :=
  k0_pay9 (k0_pay7 (k0_pay5 (unsq (xrow A c c)) (wl A c t)) (unsq (xrow A (prv c) c)) (unsq (wl A (prv c) t))) (unsq (xrow A (opp c) c)) (unsq (wl A (opp c) t))
/-- The right half. -/
def accR (c : Dev nD) (t : ℕ) : S1024x1024.Idx → Elt F .f32 :=
  k0_pay12 (k0_pay8 (k0_pay6 (unsq (xrow A c c)) (wr A c t)) (unsq (xrow A (nxt c) c)) (unsq (wr A (nxt c) t))) (k0_pay10 (unsq (xrow A (opp c) c))) (k0_pay11 (unsq (wr A (opp c) t)))
    (constant S1024x1024 .f32 0x00000000#32)
/-- The one index of a scale. -/
def ix1 : S1.Idx := Shape.Idx.first (by decide)
/-- The left half of result tile `t`. -/
def outL (c : Dev nD) (t : ℕ) : S1024x1024.Idx → Elt F .f32 :=
  k0_pay2 (A.sx c ix1) (A.sw c ix1) (accL A c t) (unsq (xrow A (nxt c) c)) (unsq (wl A (nxt c) t))
/-- The right half. -/
def outR (c : Dev nD) (t : ℕ) : S1024x1024.Idx → Elt F .f32 :=
  k0_pay3 (A.sx c ix1) (A.sw c ix1) (accR A c t) (unsq (xrow A (prv c) c)) (unsq (wr A (prv c) t))
/-- Result tile `t`. -/
def outT (c : Dev nD) (t : ℕ) : S1024x2048.Idx → Elt F .f32 := joinLR (outL A c t) (outR A c t)

/-! ## Bundles -/

/-- The rounds of the tiles' semaphores. -/
def Pos12 (c : Dev nD) (t : ℕ) : sProp 𝕄 := iprop(pos 3 c (prv c) t ∗ pos 3 c (opp c) t ∗ pos 3 c (nxt c) t ∗ pos 5 c (nxt c) t ∗ pos 5 c (opp c) t ∗ pos 5 c (prv c) t ∗ pos 2 c c t ∗ pos 2 c (prv c) t ∗ pos 2 c (opp c) t ∗ pos 4 c c t ∗ pos 4 c (nxt c) t ∗ pos 4 c (opp c) t)
/-- The rights of a step's copies. -/
def Tok12 (c : Dev nD) (t : ℕ) : sProp 𝕄 := iprop(tok 2 c c t ∗ tok 2 c (prv c) t ∗ tok 2 c (opp c) t ∗ tok 3 (nxt c) c t ∗ tok 3 (nxt c) (prv c) t ∗ tok 3 (nxt c) (opp c) t ∗ tok 4 c c t ∗ tok 4 c (nxt c) t ∗ tok 4 c (opp c) t ∗ tok 5 (prv c) c t ∗ tok 5 (prv c) (nxt c) t ∗ tok 5 (prv c) (opp c) t)
/-- The landings awaited in a step. -/
def Crd6 (c : Dev nD) (t : ℕ) : sProp 𝕄 := iprop(crd 3 c (prv c) t ∗ crd 3 c (opp c) t ∗ crd 3 c (nxt c) t ∗ crd 5 c (nxt c) t ∗ crd 5 c (opp c) t ∗ crd 5 c (prv c) t)
/-- Rights and landings of step `t` and after. -/
def Wk (c : Dev nD) (t : ℕ) : sProp 𝕄 := bigSep (Finset.Ico t 4) (fun u => iprop(Tok12 (F := F) c u ∗ Crd6 c u))
omit [FloatOps F] in
/-- The first of them. -/
theorem Wk_step (c : Dev nD) {t : ℕ} (ht : t < 4) : Wk (F := F) c t ⊢ iprop((Tok12 c t ∗ Crd6 c t) ∗ Wk c (t + 1)) := by
  unfold Wk
  rw [show Finset.Ico t 4 = insert t (Finset.Ico (t + 1) 4) by ext x; simp only [Finset.mem_insert, Finset.mem_Ico]; omega, bigSep_insert (by simp)]
  exact BIBase.Entails.rfl
omit [FloatOps F] in
/-- Its rights and landings one by one. -/
theorem Wk_open (c : Dev nD) {t : ℕ} (ht : t < 4) : Wk (F := F) c t ⊢ iprop(((tok 2 c c t ∗ tok 2 c (prv c) t ∗ tok 2 c (opp c) t ∗ tok 3 (nxt c) c t ∗ tok 3 (nxt c) (prv c) t ∗ tok 3 (nxt c) (opp c) t ∗ tok 4 c c t ∗ tok 4 c (nxt c) t ∗ tok 4 c (opp c) t ∗ tok 5 (prv c) c t ∗ tok 5 (prv c) (nxt c) t ∗ tok 5 (prv c) (opp c) t) ∗ (crd 3 c (prv c) t ∗ crd 3 c (opp c) t ∗ crd 3 c (nxt c) t ∗ crd 5 c (nxt c) t ∗ crd 5 c (opp c) t ∗ crd 5 c (prv c) t)) ∗ Wk c (t + 1)) := Wk_step c ht
/-- The slots the next step's first copies go to; after the last step, the own ones kept. -/
def End (c : Dev nD) (t : ℕ) : sProp 𝕄 := if t < 4 then iprop(FR (nxt c) c t ∗ FL (prv c) c t) else iprop(SLx rM c (prv c) ∗ SLx lM c (nxt c))
omit [FloatOps F] in
/-- From what a step leaves. -/
theorem End_intro (c : Dev nD) (t : ℕ) :
    iprop((if t + 1 < 4 then FR (F := F) (nxt c) c (t + 1) else iprop(emp)) ∗ (if t + 1 < 4 then FL (prv c) c (t + 1) else iprop(emp)) ∗ keep rM c (prv c) t ∗ keep lM c (nxt c) t)
      ⊢ End c (t + 1) := by
  unfold End keep
  by_cases h : t + 1 < 4
  · rw [if_pos h, if_pos h, if_pos h, if_pos h, if_pos h]
    iintro ⟨H, H', -, -⟩
    isplitl [H]; · iexact H
    iexact H'
  · rw [if_neg h, if_neg h, if_neg h, if_neg h, if_neg h]
    iintro ⟨-, -, H, H'⟩
    isplitl [H]; · iexact H
    iexact H'
/-- The rounds that have no duty. -/
def Idle (c : Dev nD) : sProp 𝕄 := iprop(pos 0 c c 0 ∗ pos 1 c c 0 ∗ pos 2 c (nxt c) 0 ∗ pos 3 c c 0 ∗ pos 4 c (prv c) 0 ∗ pos 5 c c 0)
/-- What a device keeps aside after the first step. -/
def Rest (c : Dev nD) : sProp 𝕄 := iprop(SLx rM c c ∗ SLx lM c c ∗ bpos c 1 ∗ (pos 0 c (nxt c) 1 ∗ pos 0 c (opp c) 1 ∗ pos 0 c (prv c) 1) ∗ Idle c)
/-- What changes from step to step. -/
def Mid (c : Dev nD) (t : ℕ) : sProp 𝕄 := iprop(SL xM c c fullShare (xrow A c c) ∗ XD A c (nxt c) ∗ XD A c (opp c) ∗ XD A c (prv c)
    ∗ SLx rM c (opp c) ∗ SLx lM c (opp c) ∗ SL rM c (nxt c) fullShare (wl A (nxt c) (t - 1)) ∗ SL lM c (prv c) fullShare (wr A (prv c) (t - 1))
    ∗ AL c (accL A c (t - 1)) ∗ AR c (accR A c (t - 1)) ∗ End c t ∗ Pos12 c t ∗ Wk c t)
/-- What a device holds before the first step. -/
def Start (c : Dev nD) : sProp 𝕄 := iprop((SLx xM c c ∗ SLx xM c (nxt c) ∗ SLx xM c (opp c) ∗ SLx xM c (prv c))
    ∗ (SLx rM c c ∗ SLx rM c (nxt c) ∗ SLx rM c (opp c) ∗ SLx rM c (prv c))
    ∗ (SLx lM c c ∗ SLx lM c (nxt c) ∗ SLx lM c (opp c) ∗ SLx lM c (prv c))
    ∗ (∃ X, ownsTc c aM fullShare X)
    ∗ bpos c 0 ∗ cred (tallyAt (bcell c) 0 3) ∗ (btok (prv c) 0 ∗ btok (nxt c) 1 ∗ btok (opp c) 2)
    ∗ (reached ER (bcell (prv c)) 0 ∗ reached ER (bcell (nxt c)) 0 ∗ reached ER (bcell (opp c)) 0)
    ∗ (pos 0 c (nxt c) 0 ∗ pos 0 c (opp c) 0 ∗ pos 0 c (prv c) 0)
    ∗ (pos 1 c (nxt c) 0 ∗ pos 1 c (opp c) 0 ∗ pos 1 c (prv c) 0)
    ∗ (tok 0 c (nxt c) 0 ∗ tok 0 c (opp c) 0 ∗ tok 0 c (prv c) 0)
    ∗ (tok 1 (nxt c) c 0 ∗ tok 1 (opp c) c 0 ∗ tok 1 (prv c) c 0)
    ∗ (crd 1 c (nxt c) 0 ∗ crd 1 c (opp c) 0 ∗ crd 1 c (prv c) 0)
    ∗ Idle c ∗ Pos12 c 0 ∗ Wk c 0)

/-- After the third activation copy. -/
abbrev lx3 (c : Dev nD) : List (GSem nD τ sig × ℕ × ℕ) := l0 c 0
/-- After the second. -/
abbrev lx2 (c : Dev nD) : List (GSem nD τ sig × ℕ × ℕ) := (cell 1 (opp c) c, 0, N) :: lx3 c
/-- After the first. -/
abbrev lx1 (c : Dev nD) : List (GSem nD τ sig × ℕ × ℕ) := (cell 1 (nxt c) c, 0, N) :: lx2 c
/-- Before the first. -/
abbrev lx0 (c : Dev nD) : List (GSem nD τ sig × ℕ × ℕ) := (cell 1 (prv c) c, 0, N) :: lx1 c
/-- Before the third barrier unit. -/
abbrev lB2 (c : Dev nD) : List (GSem nD τ sig × ℕ × ℕ) := (bcell (opp c), 0, 1) :: lx0 c
/-- Before the second. -/
abbrev lB1 (c : Dev nD) : List (GSem nD τ sig × ℕ × ℕ) := (bcell (nxt c), 0, 1) :: lB2 c
/-- Before the first. -/
abbrev lB0 (c : Dev nD) : List (GSem nD τ sig × ℕ × ℕ) := (bcell (prv c), 0, 1) :: lB1 c
/-- All that is owed at the barrier lies above it. -/
theorem abx (c : Dev nD) : ∀ e ∈ lx0 c, Above 1 e :=
  above_cons (above_x (by decide)) (above_cons (above_x (by decide)) (above_cons (above_x (by decide)) (ab0 c (by decide) (by decide))))

/-- A piece of a program before the rest of it. -/
theorem cont {α β : Type} {c : Dev nD} {p : Prog (TpuEff nD τ sig (Elt F) Λ₀ .tc) β} {k : β → Prog (TpuEff nD τ sig (Elt F) Λ₀ .tc) α} {Q : α → sProp 𝕄} {P R : sProp 𝕄} {r : β}
    {Q₀ : β → sProp 𝕄} (hQ : Q₀ = fun x => wp frame (wpE (defs₀ (F := F)) 𝒱₀ (c : Thread nD τ) none) Set.univ (k x) Q)
    (h : P ⊢ iprop((R -∗ Q₀ r) -∗ wp frame (wpE (defs₀ (F := F)) 𝒱₀ (c : Thread nD τ) none) Set.univ p Q₀)) :
    P ⊢ iprop((R -∗ wp frame (wpE (defs₀ (F := F)) 𝒱₀ (c : Thread nD τ) none) Set.univ (k r) Q)
      -∗ wp frame (wpE (defs₀ (F := F)) 𝒱₀ (c : Thread nD τ) none) Set.univ (p >>= k) Q) := by
  subst hQ
  rw [wp_bind]
  exact h

/-- A staged tile in halves. -/
theorem w_split (c : Dev nD) (t : ℕ) : (ownsTc c (wS (par t)) fullShare (A.w c t) : sProp 𝕄) ⊢ iprop(WH A false c t fullShare ∗ WH A true c t fullShare) := by
  rw [WH_l, WH_r]; exact tile_split c (wS (par t)) fullShare (A.w c t)
/-- And back. -/
theorem w_join (c : Dev nD) (t : ℕ) : iprop(WH A false c t fullShare ∗ WH A true c t fullShare) ⊢ (ownsTc c (wS (par t)) fullShare (A.w c t) : sProp 𝕄) := by
  rw [WH_l, WH_r]; exact tile_join c (wS (par t)) fullShare (A.w c t)
omit [FloatOps F] in
/-- A landed block and its round. -/
theorem XD_open (c o : Dev nD) : XD A c o ⊢ iprop(SL xM c o fullShare (xrow A o c) ∗ pos 1 c o 1) := BIBase.Entails.rfl
omit [FloatOps F] in
/-- For a later step. -/
theorem XP_late (c o : Dev nD) : iprop(SL xM c o fullShare (xrow A o c) ∗ pos 1 c o 1) ⊢ XP A false c o := BIBase.Entails.rfl
omit [FloatOps F] in
/-- For the first step. -/
theorem XP_first (c o : Dev nD) : iprop(crd 1 c o 0 ∗ pos 1 c o 0) ⊢ XP A true c o := BIBase.Entails.rfl
/-- A device's number, as the body asks for it. -/
theorem wp_dev {α : Type} {Q : α → sProp 𝕄} (c : Dev nD) {k : Dev nD → Prog (TpuEff nD τ sig (Elt F) Λ₀ .tc) α} :
    wp frame (wpE (defs₀ (F := F)) 𝒱₀ (c : Thread nD τ) none) Set.univ (.op .deviceId k) Q
      = wp frame (wpE (defs₀ (F := F)) 𝒱₀ (c : Thread nD τ) none) Set.univ (k c) Q := wp_deviceId 𝒱₀ (c : Thread nD τ) none Set.univ
omit [FloatOps F] in
/-- What the left neighbour is told. -/
theorem bpay_l (c : Dev nD) : (iprop(FR c (prv c) 0 ∗ FX c (prv c)) : sProp 𝕄) = bpay (F := F) (prv c) 0 := by
  show _ = iprop(FR (F := F) (nxt (prv c)) (prv c) 0 ∗ FX (F := F) (nxt (prv c)) (prv c)); rw [nxt_prv]
omit [FloatOps F] in
/-- What the right neighbour is told. -/
theorem bpay_r (c : Dev nD) : (iprop(FL c (nxt c) 0 ∗ FX c (nxt c)) : sProp 𝕄) = bpay (F := F) (nxt c) 1 := by
  show _ = iprop(FL (F := F) (prv (nxt c)) (nxt c) 0 ∗ FX (F := F) (prv (nxt c)) (nxt c)); rw [prv_nxt]
omit [FloatOps F] in
/-- What the device across is told. -/
theorem bpay_o (c : Dev nD) : (FX c (opp c) : sProp 𝕄) = bpay (F := F) (opp c) 2 := by
  show _ = FX (F := F) (opp (opp c)) (opp c); rw [opp_opp]
omit [FloatOps F] in
/-- What the right neighbour tells. -/
theorem bpay0 (c : Dev nD) : (bpay c 0 : sProp 𝕄) ⊢ iprop(FR (F := F) (nxt c) c 0 ∗ FX (nxt c) c) := BIBase.Entails.rfl
omit [FloatOps F] in
/-- What the left neighbour tells. -/
theorem bpay1 (c : Dev nD) : (bpay c 1 : sProp 𝕄) ⊢ iprop(FL (F := F) (prv c) c 0 ∗ FX (prv c) c) := BIBase.Entails.rfl
omit [FloatOps F] in
/-- What the device across tells. -/
theorem bpay2 (c : Dev nD) : (bpay c 2 : sProp 𝕄) ⊢ FX (F := F) (opp c) c := BIBase.Entails.rfl
omit [FloatOps F] in
/-- A slot at some contents. -/
theorem SLx_open (M : Memref sig .tc .vmem S4x1024x1024 .fp8e4m3) (c o : Dev nD) : SLx (F := F) M c o ⊢ iprop(∃ w, SL M c o fullShare w) := BIBase.Entails.rfl
/-- A load of an activation block. -/
theorem ldRow {α : Type} {Q : α → sProp 𝕄} (c o : Dev nD) {off : Fin 2 → ℕ} (hoff : off = ![1024 * o.val, 0])
    {h : ∀ a, off a + S1024x1024.size a ≤ S4096x1024.size a} {hl : xS.view.LoadsAt (Rect.unit (s := S4096x1024) off S1024x1024.size h).toLoadRect}
    {kk : ((Rect.unit (s := S4096x1024) off S1024x1024.size h).toLoadRect.shape.Idx → Elt F .fp8e4m3) → Prog (TpuEff nD τ sig (Elt F) Λ₀ .tc) α} :
    (XR A c o : sProp 𝕄)
      ⊢ iprop((XR A c o -∗ wp frame (wpE (defs₀ (F := F)) 𝒱₀ (c : Thread nD τ) none) Set.univ (kk (xrow A c o)) Q)
          -∗ wp frame (wpE (defs₀ (F := F)) 𝒱₀ (c : Thread nD τ) none) Set.univ (.op (.load xS (Rect.unit (s := S4096x1024) off S1024x1024.size h).toLoadRect hl) kk) Q) := by
  unfold XR
  exact ld (M := xS) c ![1024 * o.val, 0] hoff (by subst hoff; exact h)
/-- A store of a block into a slot. -/
theorem stSlot {α : Type} {Q : α → sProp 𝕄} (c : Dev nD) (M : Memref sig .tc .vmem S4x1024x1024 .fp8e4m3) (o : Dev nD) {off : Fin 3 → ℕ} (hoff : off = ![o.val, 0, 0])
    {h : ∀ a, off a + S1x1024x1024.size a ≤ S4x1024x1024.size a} (w' : S1024x1024.Idx → Elt F .fp8e4m3)
    {hx : (M.access (Rect.unit (s := S4x1024x1024) off S1x1024x1024.size h)).Stores Finset.univ}
    {hm : (Finset.univ : Finset (Rect.unit (s := S4x1024x1024) off S1x1024x1024.size h).shape.Idx) = Finset.univ ∨ ∀ a, (Rect.unit (s := S4x1024x1024) off S1x1024x1024.size h).stride a = 1}
    {w : S1024x1024.Idx → Elt F .fp8e4m3} {kk : PUnit → Prog (TpuEff nD τ sig (Elt F) Λ₀ .tc) α} :
    (SL M c o fullShare w : sProp 𝕄)
      ⊢ iprop((SL M c o fullShare w' -∗ wp frame (wpE (defs₀ (F := F)) 𝒱₀ (c : Thread nD τ) none) Set.univ (kk ⟨⟩) Q)
          -∗ wp frame (wpE (defs₀ (F := F)) 𝒱₀ (c : Thread nD τ) none) Set.univ
              (.op (.store M (Rect.unit (s := S4x1024x1024) off S1x1024x1024.size h) (k0_pay4 w') Finset.univ hx hm) kk) Q) := by
  unfold SL
  rw [← pay4_unsq w']
  exact st (M := M) c ![o.val, 0, 0] hoff (slot_inb o)
/-- The accumulator in halves. -/
theorem acc_split (c : Dev nD) : (iprop(∃ X, ownsTc c aM fullShare X) : sProp 𝕄) ⊢ iprop(∃ X Y, AL (F := F) c X ∗ AR c Y) := by
  iintro ⟨%X, H⟩
  ihave H := (tile_split c aM fullShare X) $$ H
  icases H with ⟨H, H'⟩
  iexists _, _
  isplitl [H]; · iexact H
  iexact H'
/-- A load of a scale reads its one element. -/
theorem ldS1 {α : Type} {Q : α → sProp 𝕄} (c : Dev nD) {M : Memref sig .tc .smem S1 .f32} {hl : M.view.LoadsAt (Rect.unit (s := S1) ![0] S1.size inb_S1_S1_0).toLoadRect}
    {X : S1.Idx → Elt F .f32} {q : PosShare TreeShare} {k : ((Rect.unit (s := S1) ![0] S1.size inb_S1_S1_0).toLoadRect.shape.Idx → Elt F .f32) → Prog (TpuEff nD τ sig (Elt F) Λ₀ .tc) α} :
    (ownsTc c M q X : sProp 𝕄)
      ⊢ iprop((ownsTc c M q X -∗ wp frame (wpE (defs₀ (F := F)) 𝒱₀ (c : Thread nD τ) none) Set.univ (k (fun _ => X ix1)) Q)
          -∗ wp frame (wpE (defs₀ (F := F)) 𝒱₀ (c : Thread nD τ) none) Set.univ (.op (.load M (Rect.unit (s := S1) ![0] S1.size inb_S1_S1_0).toLoadRect hl) k) Q) := by
  unfold ownsTc owns
  iintro ⟨%f, %hf, H⟩ Hk
  subst hf
  iapply (wp_load_rect 𝒱₀ (c : Thread nD τ) none Set.univ (m := M) (r := Rect.unit (s := S1) ![0] S1.size inb_S1_S1_0) (S := M.view.set) (q := q) (f := f)
    (M.view.set_slice_subset _)) $$ H
  iintro H
  rw [show (M.access (Rect.unit (s := S1) ![0] S1.size inb_S1_S1_0)).read (Elt F) f = fun _ => M.view.read (Elt F) f ix1 from
    funext fun j => congrArg (M.view.read (Elt F) f) (s1_idx ((Rect.unit (s := S1) ![0] S1.size inb_S1_S1_0).emb j) ix1)]
  iapply Hk
  iexists f
  isplitr; · ipureintro; rfl
  iexact H

end Cert.KernelIdealRun
-- ==== Proof.KernelIdealBody.lean ====
/-
# The steps

The first, a middle and the last step of the kernel.
-/
module

public import proofs.«01_k».proof.Proof.KernelIdealState

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Args F) (K : Dev nD × Fin 25 → ℕ)

/-- The last step only finishes the last result tile. -/
theorem step_last {Q : PUnit → sProp 𝕄} (c : Dev nD) (i : grid0.Coords) (s ws : Fin 2) (hc : (k0_cond1 i = 1#1) = False ∧ (k0_cond2 i = 1#1) = False ∧ (k0_cond3 i = 1#1) = True ∧ (k0_cond4 i = 1#1) = False) (Z : S1024x2048.Idx → Elt F .f32) {h1 : xS.IsWhole} {h2 : (wS ws).IsWhole} {h3 : (Memref.whole cc0_stg2_0 : Memref sig .tc .smem S1 .f32).IsWhole} {h4 : (Memref.whole cc0_stg3_0 : Memref sig .tc .smem S1 .f32).IsWhole}
    {h5 : (oS s).IsWhole} {h6 : xM.IsWhole} {h7 : rM.IsWhole} {h8 : lM.IsWhole} {h9 : aM.IsWhole} :
    iprop(ownsTc c (Memref.whole cc0_stg2_0) fullShare (A.sx c) ∗ ownsTc c (Memref.whole cc0_stg3_0) fullShare (A.sw c) ∗ ownsTc c (oS s) fullShare Z ∗ Mid A c 4)
      ⊢ iprop(((ownsTc c (Memref.whole cc0_stg2_0) fullShare (A.sx c) ∗ ownsTc c (Memref.whole cc0_stg3_0) fullShare (A.sw c) ∗ ownsTc c (oS s) fullShare (outT A c 3) ∗ Mid A c 4) -∗ Q ⟨⟩) -∗ wp frame (wpE (defs₀ (F := F)) 𝒱₀ (c : Thread nD τ) none) Set.univ (cc0_body i xS h1 (wS ws) h2 (Memref.whole cc0_stg2_0) h3 (Memref.whole cc0_stg3_0) h4 (oS s) h5 xM h6 rM h7 lM h8 aM h9
              cc0_scratch4 cc0_scratch5 cc0_scratch6 cc0_scratch7 cc0_scratch8 cc0_scratch9) Q) := by
  rw [cc0_body_eq_skeleton]; unfold cc0_body_skel
  simp only [semSignalWord, semWaitWord, smemLoad, smemLoadElt, Prog.lift, Prog.bind_op, Prog.bind_ret, Prog.pure_eq_ret, Prog.bind_assoc, hc.1, hc.2.1, hc.2.2.1, hc.2.2.2, dite_true, dite_false]
  rw [wp_dev]
  unfold Mid XD
  iintro ⟨H1, H2, H3, ⟨H4, H5, H6, H7, H8, H9, H10, H11, H12, H13, H14, H15, H16⟩⟩ Hk
  icases H5 with ⟨H17, H18⟩
  icases H7 with ⟨H19, H20⟩
  iapply (ldS1 c) $$ H1
  iintro H1
  iapply (ldS1 c) $$ H2
  iintro H2
  ihave H21 := (tile_split c (oS s) fullShare Z) $$ H3
  icases H21 with ⟨H22, H23⟩
  iapply (ld (M := aM) c ![0, 0] rfl inb_S1024x2048_S1024x1024_0_0) $$ H12
  iintro H12
  iapply (ldSlot c xM (nxt c) (o11 c)) $$ H17
  iintro H17
  iapply (ldSlot c rM (nxt c) (o11 c)) $$ H10
  iintro H10
  iapply (ld (M := oS s) c ![0, 0] rfl inb_S1024x2048_S1024x1024_0_0) $$ H22
  iintro H22
  iapply (st (M := oS s) c ![0, 0] rfl inb_S1024x2048_S1024x1024_0_0) $$ H22
  iintro H24
  iapply (ld (M := aM) c ![0, 1024] rfl inb_S1024x2048_S1024x1024_0_1024) $$ H13
  iintro H13
  iapply (ldSlot c xM (prv c) (o12 c)) $$ H19
  iintro H19
  iapply (ldSlot c lM (prv c) (o12 c)) $$ H11
  iintro H11
  iapply (ld (M := oS s) c ![0, 1024] rfl inb_S1024x2048_S1024x1024_0_1024) $$ H23
  iintro H23
  iapply (st (M := oS s) c ![0, 1024] rfl inb_S1024x2048_S1024x1024_0_1024) $$ H23
  iintro H25
  ihave H26 := (tile_joinLR c (oS s) fullShare _ _) $$ [H24 H25]
  · isplitl [H24]; · iexact H24
    iexact H25
  icases H26 with H27
  rw [wp_ret]; imodintro
  iapply Hk
  isplitl [H1]
  · iexact H1
  isplitl [H2]
  · iexact H2
  isplitl [H27]
  · iexact H27
  isplitl [H4]
  · iexact H4
  isplitl [H17 H18]
  · skip
    isplitl [H17]
    · iexact H17
    iexact H18
  isplitl [H6]
  · iexact H6
  isplitl [H19 H20]
  · skip
    isplitl [H19]
    · iexact H19
    iexact H20
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

/-- A middle step finishes the previous result tile and passes its own tile round. -/
theorem step_mid {Q : PUnit → sProp 𝕄} (c : Dev nD) (i : grid0.Coords) (s : Fin 2) (t : ℕ) (ht0 : 0 < t) (ht : t < 4) (hc4 : k0_cond4 i = 1#1) (hc5 : k0_cond5 i = 1#1 ↔ false = true) (hc6 : k0_cond6 i = 1#1 ↔ false = true) (hc : (k0_cond1 i = 1#1) = False ∧ (k0_cond2 i = 1#1) = True ∧ (k0_cond3 i = 1#1) = True ∧ (k0_cond4 i = 1#1) = True ∧ (k0_cond7 i = 1#1) = False) (Z : S1024x2048.Idx → Elt F .f32) {h1 : xS.IsWhole} {h2 : (wS (par t)).IsWhole} {h3 : (Memref.whole cc0_stg2_0 : Memref sig .tc .smem S1 .f32).IsWhole} {h4 : (Memref.whole cc0_stg3_0 : Memref sig .tc .smem S1 .f32).IsWhole}
    {h5 : (oS s).IsWhole} {h6 : xM.IsWhole} {h7 : rM.IsWhole} {h8 : lM.IsWhole} {h9 : aM.IsWhole} :
    iprop(ctx A K ∗ ownsTc c (wS (par t)) fullShare (A.w c t) ∗ ownsTc c (Memref.whole cc0_stg2_0) fullShare (A.sx c) ∗ ownsTc c (Memref.whole cc0_stg3_0) fullShare (A.sw c) ∗ ownsTc c (oS s) fullShare Z ∗ Mid A c t ∗ owesX c (futL c t))
      ⊢ iprop(((ownsTc c (wS (par t)) fullShare (A.w c t) ∗ ownsTc c (Memref.whole cc0_stg2_0) fullShare (A.sx c) ∗ ownsTc c (Memref.whole cc0_stg3_0) fullShare (A.sw c) ∗ ownsTc c (oS s) fullShare (outT A c (t - 1)) ∗ Mid A c (t + 1) ∗ owesX c (futL c (t + 1))) -∗ Q ⟨⟩) -∗ wp frame (wpE (defs₀ (F := F)) 𝒱₀ (c : Thread nD τ) none) Set.univ (cc0_body i xS h1 (wS (par t)) h2 (Memref.whole cc0_stg2_0) h3 (Memref.whole cc0_stg3_0) h4 (oS s) h5 xM h6 rM h7 lM h8 aM h9
              cc0_scratch4 cc0_scratch5 cc0_scratch6 cc0_scratch7 cc0_scratch8 cc0_scratch9) Q) := by
  rw [cc0_body_eq_skeleton]; unfold cc0_body_skel
  simp only [semSignalWord, semWaitWord, smemLoad, smemLoadElt, Prog.lift, Prog.bind_op, Prog.bind_ret, Prog.pure_eq_ret, Prog.bind_assoc, hc.1, hc.2.1, hc.2.2.1, hc.2.2.2.1, hc.2.2.2.2, dite_true, dite_false]
  rw [wp_dev]
  rw [futL_l0 c ht]
  unfold Mid Pos12
  have hE : End (F := F) c t = iprop(FR (nxt c) c t ∗ FL (prv c) c t) := by unfold End; rw [if_pos ht]
  rw [hE]
  iintro ⟨#HC, H1, H2, H3, H4, ⟨H5, H6, H7, H8, H9, H10, H11, H12, H13, H14, ⟨H15, H16⟩, ⟨H17, H18, H19, H20, H21, H22, H23, H24, H25, H26, H27, H28⟩, H29⟩, H30⟩ Hk
  ihave H31 := (w_split A c t) $$ H1
  icases H31 with ⟨H32, H33⟩
  ihave H34 := (WH_halves A false c t).1 $$ H32
  icases H34 with ⟨H35, H36⟩
  ihave H37 := (WH_halves A true c t).1 $$ H33
  icases H37 with ⟨H38, H39⟩
  ihave H40 := (Wk_open c ht) $$ H29
  icases H40 with ⟨⟨⟨H41, H42, H43, H44, H45, H46, H47, H48, H49, H50, H51, H52⟩, ⟨H53, H54, H55, H56, H57, H58⟩⟩, H59⟩
  ihave H60 := (give 5 lM c (opp c) t) $$ [H10 H21]
  · isplitl [H10]; · iexact H10
    iexact H21
  icases H60 with ⟨H61, H62⟩
  ihave H63 := (give 3 rM c (opp c) t) $$ [H9 H18]
  · isplitl [H9]; · iexact H9
    iexact H18
  icases H63 with ⟨H64, H65⟩
  iapply (copyR0 A K t c (d7 c _) rfl (slot_eq rM c (o10 c) _ _ _) (sem_eq 2 c (o9 c) _ _) (sem_eq 3 c (o9 c) _ _) ht (l1 c t)) $$ [H35 H15 H61 H30 H41 H23 H44]
  · isplitr; · iexact HC
    isplitl [H35]; · iexact H35
    isplitl [H15]; · iexact H15
    isplitl [H61]; · iapply (Entails.of_eq (sxR0 c t).symm); iexact H61
    isplitl [H30]; · iexact H30
    isplitl [H41]; · iexact H41
    isplitl [H23]; · iexact H23
    iexact H44
  iintro ⟨H66, H67, H68⟩
  iapply (copyL0 A K t c (d8 c _) rfl (slot_eq lM c (o10 c) _ _ _) (sem_eq 4 c (o9 c) _ _) (sem_eq 5 c (o9 c) _ _) ht (l2 c t)) $$ [H38 H16 H64 H67 H47 H26 H50]
  · isplitr; · iexact HC
    isplitl [H38]; · iexact H38
    isplitl [H16]; · iexact H16
    isplitl [H64]; · iapply (Entails.of_eq (sxL0 c t).symm); iexact H64
    isplitl [H67]; · iexact H67
    isplitl [H47]; · iexact H47
    isplitl [H26]; · iexact H26
    iexact H50
  iintro ⟨H69, H70, H71⟩
  ihave H72 := (XD_open A c (nxt c)) $$ H6
  icases H72 with ⟨H73, H74⟩
  ihave H75 := (XD_open A c (prv c)) $$ H8
  icases H75 with ⟨H76, H77⟩
  iapply (ldS1 c) $$ H2
  iintro H2
  iapply (ldS1 c) $$ H3
  iintro H3
  ihave H78 := (tile_split c (oS s) fullShare Z) $$ H4
  icases H78 with ⟨H79, H80⟩
  iapply (ld (M := aM) c ![0, 0] rfl inb_S1024x2048_S1024x1024_0_0) $$ H13
  iintro H13
  iapply (ldSlot c xM (nxt c) (o11 c)) $$ H73
  iintro H73
  iapply (ldSlot c rM (nxt c) (o11 c)) $$ H11
  iintro H11
  iapply (ld (M := oS s) c ![0, 0] rfl inb_S1024x2048_S1024x1024_0_0) $$ H79
  iintro H79
  iapply (st (M := oS s) c ![0, 0] rfl inb_S1024x2048_S1024x1024_0_0) $$ H79
  iintro H81
  iapply (ld (M := aM) c ![0, 1024] rfl inb_S1024x2048_S1024x1024_0_1024) $$ H14
  iintro H14
  iapply (ldSlot c xM (prv c) (o12 c)) $$ H76
  iintro H76
  iapply (ldSlot c lM (prv c) (o12 c)) $$ H12
  iintro H12
  iapply (ld (M := oS s) c ![0, 1024] rfl inb_S1024x2048_S1024x1024_0_1024) $$ H80
  iintro H80
  iapply (st (M := oS s) c ![0, 1024] rfl inb_S1024x2048_S1024x1024_0_1024) $$ H80
  iintro H82
  ihave H83 := (tile_joinLR c (oS s) fullShare _ _) $$ [H81 H82]
  · isplitl [H81]; · iexact H81
    iexact H82
  icases H83 with H84
  ihave H85 := (XP_late A c (nxt c)) $$ [H73 H74]
  · isplitl [H73]; · iexact H73
    iexact H74
  ihave H86 := (XP_late A c (prv c)) $$ [H76 H77]
  · isplitl [H76]; · iexact H76
    iexact H77
  ihave H87 := (XD_open A c (opp c)) $$ H7
  icases H87 with ⟨H88, H89⟩
  ihave H90 := (XP_late A c (opp c)) $$ [H88 H89]
  · isplitl [H88]; · iexact H88
    iexact H89
  ihave H91 := (SL_any rM c (nxt c) _) $$ H11
  icases H91 with H92
  ihave H93 := (SL_any lM c (prv c) _) $$ H12
  icases H93 with H94
  rw [wp_bind]
  iapply (part2 A i t ht s c hc4 _ _ _ _) $$ [H5 H36 H39 H13 H14]
  · isplitl [H5]; · iexact H5
    isplitl [H36]; · iexact H36
    isplitl [H39]; · iexact H39
    isplitl [H13]; · iexact H13
    iexact H14
  iintro ⟨H95, H96, H97, H98, H99⟩
  beta_reduce
  rw [wp_bind]
  iapply (part3 A K i t ht s c hc4 _ _) $$ [H53 H17 H56 H20 H70 H94 H22 H42 H24 H45]
  · isplitr; · iexact HC
    isplitl [H53]; · iexact H53
    isplitl [H17]; · iexact H17
    isplitl [H56]; · iexact H56
    isplitl [H20]; · iexact H20
    isplitl [H70]; · iexact H70
    isplitl [H94]; · iexact H94
    isplitl [H22]; · iexact H22
    isplitl [H42]; · iexact H42
    isplitl [H24]; · iexact H24
    iexact H45
  iintro ⟨H100, H101, H102, H103, H104, H105, H106, H107, H108⟩
  beta_reduce
  rw [wp_bind]
  iapply (part4 A K i t ht s c hc4 false hc5 _ _ _ _ _ _ _) $$ [H104 H105 H92 H19 H100 H48 H27 H51 H86 H85 H98 H99 H103]
  · isplitr; · iexact HC
    isplitl [H104]; · iexact H104
    isplitl [H105]; · iexact H105
    isplitl [H92]; · iexact H92
    isplitl [H19]; · iexact H19
    isplitl [H100]; · iexact H100
    isplitl [H48]; · iexact H48
    isplitl [H27]; · iexact H27
    isplitl [H51]; · iexact H51
    isplitl [H86]; · iexact H86
    isplitl [H85]; · iexact H85
    isplitl [H98]; · iexact H98
    isplitl [H99]; · iexact H99
    iexact H103
  iintro ⟨H109, H110, H111, H112, H113, H114, H115, H116, H117, H118⟩
  beta_reduce
  rw [wp_bind]
  iapply (part5 A K i t ht s c hc4 _ _ _ _ _) $$ [H115 H109 H117 H54 H65 H57 H62 H111]
  · isplitr; · iexact HC
    isplitl [H115]; · iexact H115
    isplitl [H109]; · iexact H109
    isplitl [H117]; · iexact H117
    isplitl [H54]; · iexact H54
    isplitl [H65]; · iexact H65
    isplitl [H57]; · iexact H57
    isplitl [H62]; · iexact H62
    iexact H111
  iintro ⟨H119, H120, H121, H122, H123, H124, H125, H126, H127, H128⟩
  beta_reduce
  rw [wp_bind]
  iapply (part6 A K i t ht s c hc4 _ _ _ _) $$ [H106 H107 H118 H112 H113 H120 H124 H125 H128 H102 H43 H25 H46]
  · isplitr; · iexact HC
    isplitl [H106]; · iexact H106
    isplitl [H107]; · iexact H107
    isplitl [H118]; · iexact H118
    isplitl [H112]; · iexact H112
    isplitl [H113]; · iexact H113
    isplitl [H120]; · iexact H120
    isplitl [H124]; · iexact H124
    isplitl [H125]; · iexact H125
    isplitl [H128]; · iexact H128
    isplitl [H102]; · iexact H102
    isplitl [H43]; · iexact H43
    isplitl [H25]; · iexact H25
    iexact H46
  iintro ⟨H129, H130, H131, H132, H133, H134, H135, H136, H137⟩
  beta_reduce
  rw [wp_bind]
  iapply (part7 A K i t ht s c hc4 false hc6 _ _ _ _ _) $$ [H127 H126 H130 H101 H133 H49 H28 H52 H90 H116 H121 H134]
  · isplitr; · iexact HC
    isplitl [H127]; · iexact H127
    isplitl [H126]; · iexact H126
    isplitl [H130]; · iexact H130
    isplitl [H101]; · iexact H101
    isplitl [H133]; · iexact H133
    isplitl [H49]; · iexact H49
    isplitl [H28]; · iexact H28
    isplitl [H52]; · iexact H52
    isplitl [H90]; · iexact H90
    isplitl [H116]; · iexact H116
    isplitl [H121]; · iexact H121
    iexact H134
  iintro ⟨H138, H139, H140, H141, H142, H143, H144, H145, H146, H147⟩
  beta_reduce
  rw [wp_bind]
  iapply (part8 A K i t ht s c hc4 _ _ _ _ _ _) $$ [H146 H55 H110 H58 H108 H135 H136 H147 H141]
  · isplitr; · iexact HC
    isplitl [H146]; · iexact H146
    isplitl [H55]; · iexact H55
    isplitl [H110]; · iexact H110
    isplitl [H58]; · iexact H58
    isplitl [H108]; · iexact H108
    isplitl [H135]; · iexact H135
    isplitl [H136]; · iexact H136
    isplitl [H147]; · iexact H147
    iexact H141
  iintro ⟨H148, H149, H150, H151, H152, H153, H154, H155, H156, H157⟩
  beta_reduce
  iapply (waitD A K c 4 (opp c) (sem_eq 4 (opp c) (o20_2 c) _ _) t ht (act4 (opp_ne_prv c) ht) (l6 c t) (by rw [lv_s4]; exact ab6 c (by omega)) (credit_any _)) $$ [H142 H157 H143]
  · isplitr; · iexact HC
    isplitl [H142]; · iexact H142
    isplitl [H157]; · iexact H157
    iexact H143
  iintro ⟨H158, H159, H160⟩
  ihave H160 := (Entails.of_eq (got4 A (opp_ne c) t)) $$ H160
  icases H160 with H161
  ihave H162 := (SL_join lM c (opp c) _) $$ [H161 H138]
  · isplitl [H161]; · iexact H161
    iexact H138
  icases H162 with H163
  iapply (waitD A K c 2 c (sem_eq 2 c (o30 c) _ _) t ht (act2 (ne_nxt c) ht) (l6 c t) (by rw [lv_s2]; exact ab6 c (by omega)) (credit_any _)) $$ [H66 H158 H68]
  · isplitr; · iexact HC
    isplitl [H66]; · iexact H66
    isplitl [H158]; · iexact H158
    iexact H68
  iintro ⟨H164, H165, H166⟩
  ihave H166 := (Entails.of_eq (got2c A c t)) $$ H166
  icases H166 with H167
  iapply (waitD A K c 4 c (sem_eq 4 c (o30 c) _ _) t ht (act4 (ne_prv c) ht) (l6 c t) (by rw [lv_s4]; exact ab6 c (by omega)) (credit_any _)) $$ [H69 H164 H71]
  · isplitr; · iexact HC
    isplitl [H69]; · iexact H69
    isplitl [H164]; · iexact H164
    iexact H71
  iintro ⟨H168, H169, H170⟩
  ihave H170 := (Entails.of_eq (got4c A c t)) $$ H170
  icases H170 with H171
  ihave H172 := (WH_halves A false c t).2 $$ [H167 H96]
  · isplitl [H167]; · iexact H167
    iexact H96
  icases H172 with H173
  ihave H174 := (WH_halves A true c t).2 $$ [H171 H97]
  · isplitl [H171]; · iexact H171
    iexact H97
  icases H174 with H175
  ihave H176 := (w_join A c t) $$ [H173 H175]
  · isplitl [H173]; · iexact H173
    iexact H175
  ihave H177 := (End_intro c t) $$ [H154 H151 H139 H132]
  · isplitl [H154]; · iexact H154
    isplitl [H151]; · iexact H151
    isplitl [H139]; · iexact H139
    iexact H132
  rw [wp_ret]; imodintro
  iapply Hk
  isplitl [H176]
  · iexact H176
  isplitl [H2]
  · iexact H2
  isplitl [H3]
  · iexact H3
  isplitl [H84]
  · iexact H84
  isplitl [H95 H119 H144 H114 H156 H163 H150 H153 H145 H148 H177 H140 H122 H149 H137 H123 H152 H165 H129 H155 H169 H131 H159 H59]
  · skip
    isplitl [H95]
    · iexact H95
    isplitl [H119]
    · iexact H119
    isplitl [H144]
    · iexact H144
    isplitl [H114]
    · iexact H114
    isplitl [H156]
    · iexact H156
    isplitl [H163]
    · iexact H163
    isplitl [H150]
    · iexact H150
    isplitl [H153]
    · iexact H153
    isplitl [H145]
    · iexact H145
    isplitl [H148]
    · iexact H148
    isplitl [H177]
    · iexact H177
    isplitl [H140 H122 H149 H137 H123 H152 H165 H129 H155 H169 H131 H159]
    · skip
      isplitl [H140]
      · iexact H140
      isplitl [H122]
      · iexact H122
      isplitl [H149]
      · iexact H149
      isplitl [H137]
      · iexact H137
      isplitl [H123]
      · iexact H123
      isplitl [H152]
      · iexact H152
      isplitl [H165]
      · iexact H165
      isplitl [H129]
      · iexact H129
      isplitl [H155]
      · iexact H155
      isplitl [H169]
      · iexact H169
      isplitl [H131]
      · iexact H131
      iexact H159
    iexact H59
  iexact H168

/-- The first step takes the barrier, sends the activations round and passes its own tile. -/
theorem step_first {Q : PUnit → sProp 𝕄} (c : Dev nD) (i : grid0.Coords) (s : Fin 2) (ht : 0 < 4) (hc4 : k0_cond4 i = 1#1) (hc5 : k0_cond5 i = 1#1 ↔ true = true) (hc6 : k0_cond6 i = 1#1 ↔ true = true) (hc : (k0_cond1 i = 1#1) = True ∧ (k0_cond2 i = 1#1) = True ∧ (k0_cond3 i = 1#1) = False ∧ (k0_cond4 i = 1#1) = True ∧ (k0_cond7 i = 1#1) = True) (Z : S1024x2048.Idx → Elt F .f32) {h1 : xS.IsWhole} {h2 : (wS (par 0)).IsWhole} {h3 : (Memref.whole cc0_stg2_0 : Memref sig .tc .smem S1 .f32).IsWhole} {h4 : (Memref.whole cc0_stg3_0 : Memref sig .tc .smem S1 .f32).IsWhole}
    {h5 : (oS s).IsWhole} {h6 : xM.IsWhole} {h7 : rM.IsWhole} {h8 : lM.IsWhole} {h9 : aM.IsWhole} :
    iprop(ctx A K ∗ ownsTc c xS fullShare (A.x c) ∗ ownsTc c (wS (par 0)) fullShare (A.w c 0) ∗ ownsTc c (Memref.whole cc0_stg2_0) fullShare (A.sx c) ∗ ownsTc c (Memref.whole cc0_stg3_0) fullShare (A.sw c) ∗ ownsTc c (oS s) fullShare Z ∗ Start c ∗ owesX c (lB0 c))
      ⊢ iprop(((ownsTc c xS fullShare (A.x c) ∗ ownsTc c (wS (par 0)) fullShare (A.w c 0) ∗ ownsTc c (Memref.whole cc0_stg2_0) fullShare (A.sx c) ∗ ownsTc c (Memref.whole cc0_stg3_0) fullShare (A.sw c) ∗ ownsTc c (oS s) fullShare Z ∗ (Mid A c (0 + 1) ∗ Rest c) ∗ owesX c (futL c (0 + 1))) -∗ Q ⟨⟩) -∗ wp frame (wpE (defs₀ (F := F)) 𝒱₀ (c : Thread nD τ) none) Set.univ (cc0_body i xS h1 (wS (par 0)) h2 (Memref.whole cc0_stg2_0) h3 (Memref.whole cc0_stg3_0) h4 (oS s) h5 xM h6 rM h7 lM h8 aM h9
              cc0_scratch4 cc0_scratch5 cc0_scratch6 cc0_scratch7 cc0_scratch8 cc0_scratch9) Q) := by
  rw [cc0_body_eq_skeleton]; unfold cc0_body_skel; rw [k0_part1_eq_skeleton]; unfold k0_part1_skel
  simp only [semSignalWord, semWaitWord, smemLoad, smemLoadElt, Prog.lift, Prog.bind_op, Prog.bind_ret, Prog.pure_eq_ret, Prog.bind_assoc, hc.1, hc.2.1, hc.2.2.1, hc.2.2.2.1, hc.2.2.2.2, dite_true, dite_false]
  rw [wp_dev]
  unfold Start Mid Pos12 Rest
  iintro ⟨#HC, H1, H2, H3, H4, H5, ⟨⟨H6, H7, H8, H9⟩, ⟨H10, H11, H12, H13⟩, ⟨H14, H15, H16, H17⟩, H18, H19, H20, ⟨H21, H22, H23⟩, ⟨#RP, #RN, #RO⟩, ⟨H27, H28, H29⟩, ⟨H30, H31, H32⟩, ⟨H33, H34, H35⟩, ⟨H36, H37, H38⟩, ⟨H39, H40, H41⟩, H42, ⟨H43, H44, H45, H46, H47, H48, H49, H50, H51, H52, H53, H54⟩, H55⟩, H56⟩ Hk
  ihave H18 := (acc_split c) $$ H18
  icases H18 with ⟨%X0, %Y0, H57, H58⟩
  ihave H59 := (give 3 rM c (prv c) 0) $$ [H13 H43]
  · isplitl [H13]; · iexact H13
    iexact H43
  icases H59 with ⟨H60, H61⟩
  ihave H62 := (give 1 xM c (prv c) 0) $$ [H9 H32]
  · isplitl [H9]; · iexact H9
    iexact H32
  icases H62 with ⟨H63, H64⟩
  ihave H65 := (Entails.of_eq (bpay_l c)) $$ [H60 H63]
  · isplitl [H60]; · iexact H60
    iexact H63
  iapply (sigB A K c (prv c) (d1 c _) 0 (lB1 c)) $$ [H56 H21 H65]
  · isplitr; · iexact HC
    isplitl [H56]; · iexact H56
    isplitl [H21]; · iexact H21
    isplitl [H65]; · iexact H65
    iexact RP
  iintro H66
  ihave H67 := (give 5 lM c (nxt c) 0) $$ [H15 H46]
  · isplitl [H15]; · iexact H15
    iexact H46
  icases H67 with ⟨H68, H69⟩
  ihave H70 := (give 1 xM c (nxt c) 0) $$ [H7 H30]
  · isplitl [H7]; · iexact H7
    iexact H30
  icases H70 with ⟨H71, H72⟩
  ihave H73 := (Entails.of_eq (bpay_r c)) $$ [H68 H71]
  · isplitl [H68]; · iexact H68
    iexact H71
  iapply (sigB A K c (nxt c) (d2 c _) 1 (lB2 c)) $$ [H66 H22 H73]
  · isplitr; · iexact HC
    isplitl [H66]; · iexact H66
    isplitl [H22]; · iexact H22
    isplitl [H73]; · iexact H73
    iexact RN
  iintro H74
  ihave H75 := (give 1 xM c (opp c) 0) $$ [H8 H31]
  · isplitl [H8]; · iexact H8
    iexact H31
  icases H75 with ⟨H76, H77⟩
  ihave H78 := (Entails.of_eq (bpay_o c)) $$ H76
  iapply (sigB A K c (opp c) (d3 c _) 2 (lx0 c)) $$ [H74 H23 H78]
  · isplitr; · iexact HC
    isplitl [H74]; · iexact H74
    isplitl [H23]; · iexact H23
    isplitl [H78]; · iexact H78
    iexact RO
  iintro H79
  iapply (waitB A K c (lx0 c) (abx c)) $$ [H20 H79 H19]
  · isplitr; · iexact HC
    isplitl [H20]; · iexact H20
    isplitl [H79]; · iexact H79
    iexact H19
  iintro ⟨H80, H81, H82z, H84z, H86⟩
  ihave H82z := (bpay0 c) $$ H82z
  icases H82z with ⟨H82, H83⟩
  ihave H84z := (bpay1 c) $$ H84z
  icases H84z with ⟨H84, H85⟩
  ihave H86 := (bpay2 c) $$ H86
  ihave H87 := (rows_split A c) $$ H1
  icases H87 with ⟨H88, H89, H90, H91⟩
  iapply (ldRow A c c (o1 c)) $$ H88
  iintro H88
  ihave H6 := (SLx_open xM c c) $$ H6
  icases H6 with ⟨%w0, H6⟩
  iapply (ldSlot c xM c (o2 c)) $$ H6
  iintro H6
  iapply (stSlot c xM c (o2 c) (xrow A c c)) $$ H6
  iintro H92
  iapply (copyX A K 0 c (prv c) (prv_ne c) (d4 c _) (row_eq (prv c) (o6 c) _ _) (slot_eq xM c (o5 c) _ _ _) (sem_eq 0 (prv c) (o3 c) _ _) (sem_eq 1 c (o4 c) _ _) rfl (lx1 c)) $$ [H91 H85 H80 H35 H29 H38]
  · isplitr; · iexact HC
    isplitl [H91]; · iexact H91
    isplitl [H85]; · iexact H85
    isplitr; · iempintro
    isplitl [H80]; · iexact H80
    isplitl [H35]; · iexact H35
    isplitl [H29]; · iexact H29
    iexact H38
  iintro ⟨H93, H94, H95⟩
  iapply (copyX A K 0 c (nxt c) (nxt_ne c) (d5 c _) (row_eq (nxt c) (o8_1 c) _ _) (slot_eq xM c (o5 c) _ _ _) (sem_eq 0 (nxt c) (o7_1 c) _ _) (sem_eq 1 c (o4 c) _ _) rfl (lx2 c)) $$ [H89 H83 H94 H33 H27 H36]
  · isplitr; · iexact HC
    isplitl [H89]; · iexact H89
    isplitl [H83]; · iexact H83
    isplitr; · iempintro
    isplitl [H94]; · iexact H94
    isplitl [H33]; · iexact H33
    isplitl [H27]; · iexact H27
    iexact H36
  iintro ⟨H96, H97, H98⟩
  iapply (copyX A K 0 c (opp c) (opp_ne c) (d6 c _) (row_eq (opp c) (o8_2 c) _ _) (slot_eq xM c (o5 c) _ _ _) (sem_eq 0 (opp c) (o7_2 c) _ _) (sem_eq 1 c (o4 c) _ _) rfl (lx3 c)) $$ [H90 H86 H97 H34 H28 H37]
  · isplitr; · iexact HC
    isplitl [H90]; · iexact H90
    isplitl [H86]; · iexact H86
    isplitr; · iempintro
    isplitl [H97]; · iexact H97
    isplitl [H34]; · iexact H34
    isplitl [H28]; · iexact H28
    iexact H37
  iintro ⟨H99, H100, H101⟩
  ihave H102 := (w_split A c 0) $$ H2
  icases H102 with ⟨H103, H104⟩
  ihave H105 := (WH_halves A false c 0).1 $$ H103
  icases H105 with ⟨H106, H107⟩
  ihave H108 := (WH_halves A true c 0).1 $$ H104
  icases H108 with ⟨H109, H110⟩
  ihave H111 := (Wk_open c ht) $$ H55
  icases H111 with ⟨⟨⟨H112, H113, H114, H115, H116, H117, H118, H119, H120, H121, H122, H123⟩, ⟨H124, H125, H126, H127, H128, H129⟩⟩, H130⟩
  ihave H131 := (give 5 lM c (opp c) 0) $$ [H16 H47]
  · isplitl [H16]; · iexact H16
    iexact H47
  icases H131 with ⟨H132, H133⟩
  ihave H134 := (give 3 rM c (opp c) 0) $$ [H12 H44]
  · isplitl [H12]; · iexact H12
    iexact H44
  icases H134 with ⟨H135, H136⟩
  iapply (copyR0 A K 0 c (d7 c _) rfl (slot_eq rM c (o10 c) _ _ _) (sem_eq 2 c (o9 c) _ _) (sem_eq 3 c (o9 c) _ _) ht (l1 c 0)) $$ [H106 H82 H132 H100 H112 H49 H115]
  · isplitr; · iexact HC
    isplitl [H106]; · iexact H106
    isplitl [H82]; · iexact H82
    isplitl [H132]; · iapply (Entails.of_eq (sxR0 c 0).symm); iexact H132
    isplitl [H100]; · iexact H100
    isplitl [H112]; · iexact H112
    isplitl [H49]; · iexact H49
    iexact H115
  iintro ⟨H137, H138, H139⟩
  iapply (copyL0 A K 0 c (d8 c _) rfl (slot_eq lM c (o10 c) _ _ _) (sem_eq 4 c (o9 c) _ _) (sem_eq 5 c (o9 c) _ _) ht (l2 c 0)) $$ [H109 H84 H135 H138 H118 H52 H121]
  · isplitr; · iexact HC
    isplitl [H109]; · iexact H109
    isplitl [H84]; · iexact H84
    isplitl [H135]; · iapply (Entails.of_eq (sxL0 c 0).symm); iexact H135
    isplitl [H138]; · iexact H138
    isplitl [H118]; · iexact H118
    isplitl [H52]; · iexact H52
    iexact H121
  iintro ⟨H140, H141, H142⟩
  ihave H143 := (XP_first A c (nxt c)) $$ [H39 H72]
  · isplitl [H39]; · iexact H39
    iexact H72
  ihave H144 := (XP_first A c (prv c)) $$ [H41 H64]
  · isplitl [H41]; · iexact H41
    iexact H64
  ihave H145 := (XP_first A c (opp c)) $$ [H40 H77]
  · isplitl [H40]; · iexact H40
    iexact H77
  rw [wp_bind]
  iapply (part2 A i 0 ht s c hc4 _ _ _ _) $$ [H92 H107 H110 H57 H58]
  · isplitl [H92]; · iexact H92
    isplitl [H107]; · iexact H107
    isplitl [H110]; · iexact H110
    isplitl [H57]; · iexact H57
    iexact H58
  iintro ⟨H146, H147, H148, H149, H150⟩
  beta_reduce
  rw [wp_bind]
  iapply (part3 A K i 0 ht s c hc4 _ _) $$ [H124 H61 H127 H69 H141 H17 H48 H113 H50 H116]
  · isplitr; · iexact HC
    isplitl [H124]; · iexact H124
    isplitl [H61]; · iexact H61
    isplitl [H127]; · iexact H127
    isplitl [H69]; · iexact H69
    isplitl [H141]; · iexact H141
    isplitl [H17]; · iexact H17
    isplitl [H48]; · iexact H48
    isplitl [H113]; · iexact H113
    isplitl [H50]; · iexact H50
    iexact H116
  iintro ⟨H151, H152, H153, H154, H155, H156, H157, H158, H159⟩
  beta_reduce
  rw [wp_bind]
  iapply (part4 A K i 0 ht s c hc4 true hc5 _ _ _ _ _ _ _) $$ [H155 H156 H11 H45 H151 H119 H53 H122 H144 H143 H149 H150 H154]
  · isplitr; · iexact HC
    isplitl [H155]; · iexact H155
    isplitl [H156]; · iexact H156
    isplitl [H11]; · iexact H11
    isplitl [H45]; · iexact H45
    isplitl [H151]; · iexact H151
    isplitl [H119]; · iexact H119
    isplitl [H53]; · iexact H53
    isplitl [H122]; · iexact H122
    isplitl [H144]; · iexact H144
    isplitl [H143]; · iexact H143
    isplitl [H149]; · iexact H149
    isplitl [H150]; · iexact H150
    iexact H154
  iintro ⟨H160, H161, H162, H163, H164, H165, H166, H167, H168, H169⟩
  beta_reduce
  rw [wp_bind]
  iapply (part5 A K i 0 ht s c hc4 _ _ _ _ _) $$ [H166 H160 H168 H125 H136 H128 H133 H162]
  · isplitr; · iexact HC
    isplitl [H166]; · iexact H166
    isplitl [H160]; · iexact H160
    isplitl [H168]; · iexact H168
    isplitl [H125]; · iexact H125
    isplitl [H136]; · iexact H136
    isplitl [H128]; · iexact H128
    isplitl [H133]; · iexact H133
    iexact H162
  iintro ⟨H170, H171, H172, H173, H174, H175, H176, H177, H178, H179⟩
  beta_reduce
  rw [wp_bind]
  iapply (part6 A K i 0 ht s c hc4 _ _ _ _) $$ [H157 H158 H169 H163 H164 H171 H175 H176 H179 H153 H114 H51 H117]
  · isplitr; · iexact HC
    isplitl [H157]; · iexact H157
    isplitl [H158]; · iexact H158
    isplitl [H169]; · iexact H169
    isplitl [H163]; · iexact H163
    isplitl [H164]; · iexact H164
    isplitl [H171]; · iexact H171
    isplitl [H175]; · iexact H175
    isplitl [H176]; · iexact H176
    isplitl [H179]; · iexact H179
    isplitl [H153]; · iexact H153
    isplitl [H114]; · iexact H114
    isplitl [H51]; · iexact H51
    iexact H117
  iintro ⟨H180, H181, H182, H183, H184, H185, H186, H187, H188⟩
  beta_reduce
  rw [wp_bind]
  iapply (part7 A K i 0 ht s c hc4 true hc6 _ _ _ _ _) $$ [H178 H177 H181 H152 H184 H120 H54 H123 H145 H167 H172 H185]
  · isplitr; · iexact HC
    isplitl [H178]; · iexact H178
    isplitl [H177]; · iexact H177
    isplitl [H181]; · iexact H181
    isplitl [H152]; · iexact H152
    isplitl [H184]; · iexact H184
    isplitl [H120]; · iexact H120
    isplitl [H54]; · iexact H54
    isplitl [H123]; · iexact H123
    isplitl [H145]; · iexact H145
    isplitl [H167]; · iexact H167
    isplitl [H172]; · iexact H172
    iexact H185
  iintro ⟨H189, H190, H191, H192, H193, H194, H195, H196, H197, H198⟩
  beta_reduce
  rw [wp_bind]
  iapply (part8 A K i 0 ht s c hc4 _ _ _ _ _ _) $$ [H197 H126 H161 H129 H159 H186 H187 H198 H192]
  · isplitr; · iexact HC
    isplitl [H197]; · iexact H197
    isplitl [H126]; · iexact H126
    isplitl [H161]; · iexact H161
    isplitl [H129]; · iexact H129
    isplitl [H159]; · iexact H159
    isplitl [H186]; · iexact H186
    isplitl [H187]; · iexact H187
    isplitl [H198]; · iexact H198
    iexact H192
  iintro ⟨H199, H200, H201, H202, H203, H204, H205, H206, H207, H208⟩
  beta_reduce
  iapply (waitD A K c 4 (opp c) (sem_eq 4 (opp c) (o20_2 c) _ _) 0 ht (act4 (opp_ne_prv c) ht) (l6 c 0) (by rw [lv_s4]; exact ab6 c (by omega)) (credit_any _)) $$ [H193 H208 H194]
  · isplitr; · iexact HC
    isplitl [H193]; · iexact H193
    isplitl [H208]; · iexact H208
    iexact H194
  iintro ⟨H209, H210, H211⟩
  ihave H211 := (Entails.of_eq (got4 A (opp_ne c) 0)) $$ H211
  icases H211 with H212
  ihave H213 := (SL_join lM c (opp c) _) $$ [H212 H189]
  · isplitl [H212]; · iexact H212
    iexact H189
  icases H213 with H214
  iapply (waitD A K c 2 c (sem_eq 2 c (o30 c) _ _) 0 ht (act2 (ne_nxt c) ht) (l6 c 0) (by rw [lv_s2]; exact ab6 c (by omega)) (credit_any _)) $$ [H137 H209 H139]
  · isplitr; · iexact HC
    isplitl [H137]; · iexact H137
    isplitl [H209]; · iexact H209
    iexact H139
  iintro ⟨H215, H216, H217⟩
  ihave H217 := (Entails.of_eq (got2c A c 0)) $$ H217
  icases H217 with H218
  iapply (waitD A K c 4 c (sem_eq 4 c (o30 c) _ _) 0 ht (act4 (ne_prv c) ht) (l6 c 0) (by rw [lv_s4]; exact ab6 c (by omega)) (credit_any _)) $$ [H140 H215 H142]
  · isplitr; · iexact HC
    isplitl [H140]; · iexact H140
    isplitl [H215]; · iexact H215
    iexact H142
  iintro ⟨H219, H220, H221⟩
  ihave H221 := (Entails.of_eq (got4c A c 0)) $$ H221
  icases H221 with H222
  iapply (waitD A K c 0 (prv c) (sem_eq 0 (prv c) (o32 c) _ _) 0 (by decide) (act0 (prv_ne c)) (l6 c 0) (by rw [lv_s0]; exact ab6 c (by omega)) (credit_any _)) $$ [H93 H219 H95]
  · isplitr; · iexact HC
    isplitl [H93]; · iexact H93
    isplitl [H219]; · iexact H219
    iexact H95
  iintro ⟨H223, H224, H225⟩
  ihave H225 := (Entails.of_eq (got0 A c (prv c) 0)) $$ H225
  icases H225 with H226
  iapply (waitD A K c 0 (nxt c) (sem_eq 0 (nxt c) (o34_1 c) _ _) 0 (by decide) (act0 (nxt_ne c)) (l6 c 0) (by rw [lv_s0]; exact ab6 c (by omega)) (credit_any _)) $$ [H96 H223 H98]
  · isplitr; · iexact HC
    isplitl [H96]; · iexact H96
    isplitl [H223]; · iexact H223
    iexact H98
  iintro ⟨H227, H228, H229⟩
  ihave H229 := (Entails.of_eq (got0 A c (nxt c) 0)) $$ H229
  icases H229 with H230
  iapply (waitD A K c 0 (opp c) (sem_eq 0 (opp c) (o34_2 c) _ _) 0 (by decide) (act0 (opp_ne c)) (l6 c 0) (by rw [lv_s0]; exact ab6 c (by omega)) (credit_any _)) $$ [H99 H227 H101]
  · isplitr; · iexact HC
    isplitl [H99]; · iexact H99
    isplitl [H227]; · iexact H227
    iexact H101
  iintro ⟨H231, H232, H233⟩
  ihave H233 := (Entails.of_eq (got0 A c (opp c) 0)) $$ H233
  icases H233 with H234
  ihave H235 := (WH_halves A false c 0).2 $$ [H218 H147]
  · isplitl [H218]; · iexact H218
    iexact H147
  icases H235 with H236
  ihave H237 := (WH_halves A true c 0).2 $$ [H222 H148]
  · isplitl [H222]; · iexact H222
    iexact H148
  icases H237 with H238
  ihave H239 := (w_join A c 0) $$ [H236 H238]
  · isplitl [H236]; · iexact H236
    iexact H238
  ihave H240 := (End_intro c 0) $$ [H205 H202 H190 H183]
  · isplitl [H205]; · iexact H205
    isplitl [H202]; · iexact H202
    isplitl [H190]; · iexact H190
    iexact H183
  rw [wp_ret]; imodintro
  ihave H241 := (rows_join A c) $$ [H88 H230 H234 H226]
  · isplitl [H88]; · iexact H88
    isplitl [H230]; · iexact H230
    isplitl [H234]; · iexact H234
    iexact H226
  icases H241 with H242
  iapply Hk
  isplitl [H242]
  · iexact H242
  isplitl [H239]
  · iexact H239
  isplitl [H3]
  · iexact H3
  isplitl [H4]
  · iexact H4
  isplitl [H5]
  · iexact H5
  isplitl [H146 H170 H195 H165 H207 H214 H201 H204 H196 H199 H240 H191 H173 H200 H188 H174 H203 H216 H180 H206 H220 H182 H210 H130 H10 H14 H81 H228 H232 H224 H42]
  · skip
    isplitl [H146 H170 H195 H165 H207 H214 H201 H204 H196 H199 H240 H191 H173 H200 H188 H174 H203 H216 H180 H206 H220 H182 H210 H130]
    · skip
      isplitl [H146]
      · iexact H146
      isplitl [H170]
      · iexact H170
      isplitl [H195]
      · iexact H195
      isplitl [H165]
      · iexact H165
      isplitl [H207]
      · iexact H207
      isplitl [H214]
      · iexact H214
      isplitl [H201]
      · iexact H201
      isplitl [H204]
      · iexact H204
      isplitl [H196]
      · iexact H196
      isplitl [H199]
      · iexact H199
      isplitl [H240]
      · iexact H240
      isplitl [H191 H173 H200 H188 H174 H203 H216 H180 H206 H220 H182 H210]
      · skip
        isplitl [H191]
        · iexact H191
        isplitl [H173]
        · iexact H173
        isplitl [H200]
        · iexact H200
        isplitl [H188]
        · iexact H188
        isplitl [H174]
        · iexact H174
        isplitl [H203]
        · iexact H203
        isplitl [H216]
        · iexact H216
        isplitl [H180]
        · iexact H180
        isplitl [H206]
        · iexact H206
        isplitl [H220]
        · iexact H220
        isplitl [H182]
        · iexact H182
        iexact H210
      iexact H130
    isplitl [H10]
    · iexact H10
    isplitl [H14]
    · iexact H14
    isplitl [H81]
    · iexact H81
    isplitl [H228 H232 H224]
    · skip
      isplitl [H228]
      · iexact H228
      isplitl [H232]
      · iexact H232
      iexact H224
    iexact H42
  iexact H231

end Cert.KernelIdealRun
-- ==== Proof.KernelIdealGhost.lean ====
/-
# The launch's cells and rights

Every semaphore's cell is opened at once; the rights to pay are minted at the cells and dealt to the devices that use them.
-/
module

public import proofs.«01_k».proof.Proof.KernelIdealState

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Args F) (K : Dev nD × Fin 25 → ℕ)

/-! ## Families over cells -/

/-- One step right, as a bijection. -/
def turnR : Dev nD ≃ Dev nD := ⟨nxt, prv, fun c => prv_nxt c, fun c => nxt_prv c⟩
/-- One step left. -/
def turnL : Dev nD ≃ Dev nD := ⟨prv, nxt, fun c => nxt_prv c, fun c => prv_nxt c⟩
/-- Across. -/
def turnO : Dev nD ≃ Dev nD := ⟨opp, opp, fun c => opp_opp c, fun c => opp_opp c⟩

omit [FloatOps F] in
/-- A family over the devices, dealt to others. -/
theorem bigSep_turn (e : Dev nD ≃ Dev nD) {f g : Dev nD → sProp 𝕄} (h : ∀ c, f (e c) = g c) : bigSep Finset.univ f = bigSep Finset.univ g := by
  rw [bigSep_univ_equiv e f]; exact bigSep_congr fun c _ => h c

/-- The numbers of the DMA semaphores are apart. -/
theorem cix_injective : Function.Injective (fun ko : Fin 6 × Dev nD => cix ko.1 ko.2) := by
  rintro ⟨k, o⟩ ⟨k', o'⟩ h
  have h' : 1 + 4 * k.val + o.val = 1 + 4 * k'.val + o'.val := congrArg Fin.val h
  have := o.isLt; have := o'.isLt; have : nD = 4 := rfl
  exact Prod.ext (Fin.ext (by dsimp only; omega)) (Fin.ext (by dsimp only; omega))

omit [FloatOps F] in
/-- A family over a device's semaphores: the barrier's, then the arrays'. -/
theorem bigSep_sems (Φ : Fin 25 → sProp 𝕄) :
    bigSep Finset.univ Φ = iprop(Φ 0 ∗ bigSep Finset.univ fun k : Fin 6 => bigSep Finset.univ fun o : Dev nD => Φ (cix k o)) := by
  rw [show (Finset.univ : Finset (Fin 25)) = insert 0 (Finset.univ.map ⟨fun ko : Fin 6 × Dev nD => cix ko.1 ko.2, cix_injective⟩) by decide,
    bigSep_insert (by decide), bigSep_map, bigSep_univ_prod]
  rfl

omit [FloatOps F] in
/-- A family over the devices, from one of them on. -/
theorem bigSep_ring (c : Dev nD) (P : Dev nD → sProp 𝕄) : bigSep Finset.univ P = iprop(P c ∗ P (nxt c) ∗ P (opp c) ∗ P (prv c)) := by
  rw [bigSep_univ_eq_bigSepL [c, nxt c, opp c, prv c] (by revert c; decide) (by revert c; decide)]; rfl
omit [FloatOps F] in
/-- A family over the six arrays. -/
theorem bigSep_six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; rfl
omit [FloatOps F] in
/-- A family over three. -/
theorem bigSep_three (Φ : Fin 3 → sProp 𝕄) : bigSep Finset.univ Φ = iprop(Φ 0 ∗ Φ 1 ∗ Φ 2) := by
  rw [bigSep_univ_eq_bigSepL [0, 1, 2] (by decide) (by decide)]; rfl
omit [FloatOps F] in
/-- A family over the four steps. -/
theorem bigSep_steps (Φ : ℕ → sProp 𝕄) : (bigSep Finset.univ fun r : Fin 4 => Φ r.val) = bigSep (Finset.Ico 0 4) Φ := by
  rw [bigSep_univ_eq_bigSepL [0, 1, 2, 3] (by decide) (by decide), bigSep_eq_bigSepL_of_eq [0, 1, 2, 3] (by decide) (by decide)]; rfl

/-! ## The cells and rights dealt at launch -/

/-- The kernel's own semaphores, numbered. -/
def osem (j : Fin 24) : SemLoc sig := .dma ⟨7 + j.val, by revert j; decide⟩
/-- They are the kernel's own. -/
theorem ownSemFacts : Pipeline.OwnSemFacts cfg0.spec osem := by decide

/-- Different numbers, different semaphores. -/
theorem osemB_injective : Function.Injective osemB := by
  intro j j' h
  unfold osemB at h
  by_cases h0 : j.val = 0 <;> by_cases h1 : j'.val = 0
  · exact Fin.ext (h0.trans h1.symm)
  · rw [dif_pos h0, dif_neg h1] at h; cases h
  · rw [dif_neg h0, dif_pos h1] at h; cases h
  · rw [dif_neg h0, dif_neg h1] at h
    have h2 := congrArg Fin.val (SemLoc.dma.inj h)
    exact Fin.ext (by dsimp only at h2; omega)
/-- Different devices or numbers, different cells. -/
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := osemB_injective (congrArg Prod.snd h)
  rw [h1, h2]
/-- All the cells. -/
def ringCells : Finset (GSem nD τ sig) := Finset.univ.map ⟨kcell, kcell_injective⟩
/-- A right: cell, round, duty. -/
abbrev tokOf (x : (Dev nD × Fin 25) × (Fin 4 × Fin 3)) : GSem nD τ sig × ℕ × Fin 3 := (kcell x.1, x.2.1.val, x.2.2)
/-- Different ones differ. -/
theorem tokOf_injective : Function.Injective tokOf := by
  rintro ⟨ck, r, d⟩ ⟨ck', r', d'⟩ h
  have h1 : ck = ck' := kcell_injective (congrArg Prod.fst h)
  have h2 : r = r' := Fin.ext (congrArg (fun x : GSem nD τ sig × ℕ × Fin 3 => x.2.1) h)
  have h3 : d = d' := congrArg (fun x : GSem nD τ sig × ℕ × Fin 3 => x.2.2) h
  rw [h1, h2, h3]
/-- All the rights. -/
def ringToks : Finset (GSem nD τ sig × ℕ × Fin 3) := Finset.univ.map ⟨tokOf, tokOf_injective⟩

/-- The element the launch starts from. -/
def u₀ : UU := (initOf (Pipeline.cells cfgs cellOf_inj) (Pipeline.launchToks cfgs cellOf_inj), initOf ringCells ringToks)

/-- The rights at a device's own cells. -/
def toks (c : Dev nD) : sProp 𝕄 :=
  bigSep Finset.univ fun k : Fin 25 => bigSep Finset.univ fun rd : Fin 4 × Fin 3 => dutyTok ER (kcell (c, k)) rd.1.val rd.2
/-- Where a device stands at its own cells. -/
def poss (c : Dev nD) : sProp 𝕄 := bigSep Finset.univ fun k : Fin 25 => iprop(atPos ER (kcell (c, k)) 0 ∅ 0 ∗ reached ER (kcell (c, k)) 0)
/-- What the launch deals a device. -/
def G (c : Dev nD) : sProp 𝕄 := iprop((bigSep Finset.univ fun k : Fin 25 => roundState ER (Rd A) (kcell (c, k)) 0) ∗ poss c ∗ toks c)

omit [FloatOps F] in
/-- The launch's element yields it. -/
theorem fund_ring : BI.own (ER (initOf ringCells ringToks)) ⊢ (|==> bigSep Finset.univ (G A) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]
    rfl
  iintro HX
  imod (Rounds.fund ER (Rd A) ringCells ringToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat' Hr']
  · isplitl [Hat'] <;> iassumption
  iexact Htok'

/-! ## The rights, dealt to those who use them -/

/-- A semaphore's rights of all rounds. -/
def Tr (k : Fin 6) (c o : Dev nD) : sProp 𝕄 := bigSep Finset.univ fun r : Fin 4 => tok k c o r.val
/-- An array's. -/
def Ta (k : Fin 6) (c : Dev nD) : sProp 𝕄 := iprop(Tr k c c ∗ Tr k c (nxt c) ∗ Tr k c (opp c) ∗ Tr k c (prv c))
/-- A device's rights at its own right-going landings. -/
def T3m (d : Dev nD) : sProp 𝕄 := iprop(Tr 3 d (prv d) ∗ Tr 3 d (opp d) ∗ Tr 3 d (nxt d))
/-- At its left-going ones. -/
def T5m (d : Dev nD) : sProp 𝕄 := iprop(Tr 5 d (nxt d) ∗ Tr 5 d (opp d) ∗ Tr 5 d (prv d))
/-- A device's rights at its right neighbour's landings. -/
def T3p (c : Dev nD) : sProp 𝕄 := iprop(Tr 3 (nxt c) c ∗ Tr 3 (nxt c) (prv c) ∗ Tr 3 (nxt c) (opp c))
/-- At its left neighbour's. -/
def T5p (c : Dev nD) : sProp 𝕄 := iprop(Tr 5 (prv c) c ∗ Tr 5 (prv c) (nxt c) ∗ Tr 5 (prv c) (opp c))
/-- Rights a device uses itself. -/
def Town (c : Dev nD) : sProp 𝕄 := iprop(Ta 0 c ∗ Ta 2 c ∗ Ta 4 c)
/-- Rights as minted. -/
def Tmint (d : Dev nD) : sProp 𝕄 := iprop(btok d 0 ∗ btok d 1 ∗ btok d 2 ∗ Tr 1 d (nxt d) ∗ Tr 1 d (opp d) ∗ Tr 1 d (prv d)
    ∗ T3m d ∗ T5m d ∗ Town d)
/-- Rights as dealt. -/
def Tpay (c : Dev nD) : sProp 𝕄 := iprop(btok (prv c) 0 ∗ btok (nxt c) 1 ∗ btok (opp c) 2 ∗ Tr 1 (prv c) c ∗ Tr 1 (opp c) c ∗ Tr 1 (nxt c) c
    ∗ T3p c ∗ T5p c ∗ Town c)

omit [FloatOps F] in
/-- Dealing them. -/
theorem toks_around : (bigSep Finset.univ fun d : Dev nD => (Tmint d : sProp 𝕄)) ⊢ bigSep Finset.univ fun c : Dev nD => Tpay c := by
  refine Entails.of_eq ?_
  unfold Tmint Tpay
  rw [bigSep_sep', bigSep_sep', bigSep_sep', bigSep_sep', bigSep_sep', bigSep_sep', bigSep_sep', bigSep_sep',
    bigSep_turn turnL (f := fun d => btok (F := F) d 0) (g := fun c => btok (prv c) 0) (fun c => rfl),
    bigSep_turn turnR (f := fun d => btok (F := F) d 1) (g := fun c => btok (nxt c) 1) (fun c => rfl),
    bigSep_turn turnO (f := fun d => btok (F := F) d 2) (g := fun c => btok (opp c) 2) (fun c => rfl),
    bigSep_turn turnL (f := fun d => Tr (F := F) 1 d (nxt d)) (g := fun c => Tr 1 (prv c) c) (fun c => by show Tr 1 (prv c) (nxt (prv c)) = _; rw [nxt_prv]),
    bigSep_turn turnO (f := fun d => Tr (F := F) 1 d (opp d)) (g := fun c => Tr 1 (opp c) c) (fun c => by show Tr 1 (opp c) (opp (opp c)) = _; rw [opp_opp]),
    bigSep_turn turnR (f := fun d => Tr (F := F) 1 d (prv d)) (g := fun c => Tr 1 (nxt c) c) (fun c => by show Tr 1 (nxt c) (prv (nxt c)) = _; rw [prv_nxt]),
    bigSep_turn turnR (f := fun d => T3m (F := F) d) (g := fun c => T3p c)
      (fun c => by show iprop(Tr 3 (nxt c) (prv (nxt c)) ∗ Tr 3 (nxt c) (opp (nxt c)) ∗ Tr 3 (nxt c) (nxt (nxt c))) = _; rw [prv_nxt, opp_nxt, nxt_nxt]; rfl),
    bigSep_turn turnL (f := fun d => T5m (F := F) d) (g := fun c => T5p c)
      (fun c => by show iprop(Tr 5 (prv c) (nxt (prv c)) ∗ Tr 5 (prv c) (opp (prv c)) ∗ Tr 5 (prv c) (prv (prv c))) = _; rw [nxt_prv, opp_prv, prv_prv]; rfl)]
  simp only [bigSep_sep']

omit [FloatOps F] in
/-- The rights at one semaphore, by round. -/
theorem tr_intro (k : Fin 6) (c o : Dev nD) :
    (bigSep Finset.univ fun rd : Fin 4 × Fin 3 => (dutyTok ER (kcell (c, cix k o)) rd.1.val rd.2 : sProp 𝕄)) ⊢ Tr k c o := by
  unfold Tr tok
  rw [bigSep_univ_prod, kcell_cix]
  exact bigSep_mono fun r _ => bigSep_elim (Finset.mem_univ 0)
omit [FloatOps F] in
/-- The rights at the barrier. -/
theorem tb_intro (c : Dev nD) :
    (bigSep Finset.univ fun rd : Fin 4 × Fin 3 => (dutyTok ER (kcell (c, 0)) rd.1.val rd.2 : sProp 𝕄)) ⊢ iprop(btok c 0 ∗ btok c 1 ∗ btok c 2) := by
  rw [bigSep_univ_prod]
  refine BIBase.Entails.trans (bigSep_elim (Finset.mem_univ (0 : Fin 4))) (Entails.of_eq ?_)
  rw [bigSep_three]; rfl
omit [FloatOps F] in
/-- The rights at an array. -/
theorem ta_intro (k : Fin 6) (c : Dev nD) :
    (bigSep Finset.univ fun o : Dev nD => bigSep Finset.univ fun rd : Fin 4 × Fin 3 => (dutyTok ER (kcell (c, cix k o)) rd.1.val rd.2 : sProp 𝕄)) ⊢ Ta k c := by
  refine BIBase.Entails.trans (bigSep_mono fun o _ => tr_intro (F := F) k c o) (Entails.of_eq ?_)
  rw [bigSep_ring c]; rfl
omit [FloatOps F] in
/-- A device's minted rights sorted. -/
theorem toks_open (c : Dev nD) : (toks c : sProp 𝕄) ⊢ Tmint c := by
  unfold toks
  rw [bigSep_sems, bigSep_six]
  iintro ⟨HB, H0, H1, H2, H3, H4, H5⟩
  ihave HB := (tb_intro (F := F) c) $$ HB
  ihave H0 := (ta_intro (F := F) 0 c) $$ H0
  ihave H1 := (ta_intro (F := F) 1 c) $$ H1
  ihave H2 := (ta_intro (F := F) 2 c) $$ H2
  ihave H3 := (ta_intro (F := F) 3 c) $$ H3
  ihave H4 := (ta_intro (F := F) 4 c) $$ H4
  ihave H5 := (ta_intro (F := F) 5 c) $$ H5
  ihave H1 := (show (Ta 1 c : sProp 𝕄) ⊢ iprop(Tr 1 c c ∗ Tr 1 c (nxt c) ∗ Tr 1 c (opp c) ∗ Tr 1 c (prv c)) from BIBase.Entails.rfl) $$ H1
  ihave H3 := (show (Ta 3 c : sProp 𝕄) ⊢ iprop(Tr 3 c c ∗ Tr 3 c (nxt c) ∗ Tr 3 c (opp c) ∗ Tr 3 c (prv c)) from BIBase.Entails.rfl) $$ H3
  ihave H5 := (show (Ta 5 c : sProp 𝕄) ⊢ iprop(Tr 5 c c ∗ Tr 5 c (nxt c) ∗ Tr 5 c (opp c) ∗ Tr 5 c (prv c)) from BIBase.Entails.rfl) $$ H5
  icases HB with ⟨B0, B1, B2⟩
  icases H1 with ⟨-, A1, A2, A3⟩
  icases H3 with ⟨-, C1, C2, C3⟩
  icases H5 with ⟨-, D1, D2, D3⟩
  unfold Tmint T3m T5m Town
  isplitl [B0]; · iexact B0
  isplitl [B1]; · iexact B1
  isplitl [B2]; · iexact B2
  isplitl [A1]; · iexact A1
  isplitl [A2]; · iexact A2
  isplitl [A3]; · iexact A3
  isplitl [C1 C2 C3]
  · isplitl [C3]; · iexact C3
    isplitl [C2]; · iexact C2
    iexact C1
  isplitl [D1 D2 D3]
  · isplitl [D1]; · iexact D1
    isplitl [D2]; · iexact D2
    iexact D3
  isplitl [H0]; · iexact H0
  isplitl [H2]; · iexact H2
  iexact H4

/-! ## Opening the cells -/

omit [FloatOps F] in
/-- The kernel's semaphores and the barrier, by number. -/
theorem sems0_eq (c : Dev nD) :
    iprop(unscopedSems0 c ∗ Pipeline.ownSems0 (Ix := ℕ) (Name := ℕ) (U := UU) (Lvl := ℕ) (Val := Elt F) (τ := τ) osem c)
      = (bigSep Finset.univ fun k : Fin 25 => semVal (kcell (c, k)) 0 : sProp 𝕄) := by
  have h0 : (unscopedSems0 c : sProp 𝕄) = semVal (bcell c) 0 := by
    unfold unscopedSems0; rw [bigSep_eq_bigSepL_of_eq [barS] (by decide) (by decide)]; rfl
  have h1 : (Pipeline.ownSems0 (Ix := ℕ) (Name := ℕ) (U := UU) (Lvl := ℕ) (Val := Elt F) (τ := τ) osem c : sProp 𝕄)
      = bigSep Finset.univ fun j : Fin 24 => semVal (kcell (c, j.succ)) 0 := by
    refine bigSep_congr fun j _ => ?_
    show semVal ((c : Thread nD τ), osem j) 0 = semVal ((c : Thread nD τ), osemB j.succ) 0
    unfold osem osemB
    rw [dif_neg (by show j.val + 1 ≠ 0; omega)]
    refine congrArg (fun q => semVal ((c : Thread nD τ), SemLoc.dma q) 0) (Fin.ext ?_)
    show 7 + j.val = 6 + (j.val + 1); omega
  rw [h0, h1, show (Finset.univ : Finset (Fin 25)) = insert 0 (Finset.univ.map ⟨Fin.succ, Fin.succ_injective 24⟩) by decide, bigSep_insert (by decide), bigSep_map]
  rfl

omit [FloatOps F] in
/-- One device's cells opened. -/
theorem core_alloc (c : Dev nD) :
    iprop(Pipeline.ownSems0 (Ix := ℕ) (Name := ℕ) (U := UU) (Lvl := ℕ) (Val := Elt F) (τ := τ) osem c ∗ unscopedSems0 c ∗ G A c)
      ⊢ |={Set.univ}=> iprop((bigSep Finset.univ fun k => iprop(∃ κ : ℕ, cellInv ER (Rd A) κ (kcell (c, k)))) ∗ poss c ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 25 => semVal (kcell (c, k)) 0) ∗ bigSep Finset.univ fun k : Fin 25 => roundState ER (Rd A) (kcell (c, k)) 0)
      ⊢ (|={Set.univ}=> bigSep Finset.univ fun k => iprop(∃ κ : ℕ, cellInv ER (Rd A) κ (kcell (c, k))) : sProp 𝕄) from by
        rw [← bigSep_sep']
        exact (bigSep_mono fun k _ => (Rounds.body_intro ER (Rd A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's own positions, one by one. -/
def Pown (c : Dev nD) : sProp 𝕄 := iprop((atPos ER (bcell c) 0 ∅ 0 ∗ reached ER (bcell c) 0)
  ∗ (pos 0 c c 0 ∗ pos 0 c (nxt c) 0 ∗ pos 0 c (opp c) 0 ∗ pos 0 c (prv c) 0) ∗ (pos 1 c c 0 ∗ pos 1 c (nxt c) 0 ∗ pos 1 c (opp c) 0 ∗ pos 1 c (prv c) 0)
  ∗ (pos 2 c c 0 ∗ pos 2 c (nxt c) 0 ∗ pos 2 c (opp c) 0 ∗ pos 2 c (prv c) 0) ∗ (pos 3 c c 0 ∗ pos 3 c (nxt c) 0 ∗ pos 3 c (opp c) 0 ∗ pos 3 c (prv c) 0)
  ∗ (pos 4 c c 0 ∗ pos 4 c (nxt c) 0 ∗ pos 4 c (opp c) 0 ∗ pos 4 c (prv c) 0) ∗ (pos 5 c c 0 ∗ pos 5 c (nxt c) 0 ∗ pos 5 c (opp c) 0 ∗ pos 5 c (prv c) 0))
omit [FloatOps F] in
/-- That they are. -/
theorem poss_eq (c : Dev nD) : (poss c : sProp 𝕄) = Pown c := by
  unfold poss
  rw [bigSep_sems, bigSep_six]
  have h (k : Fin 6) : (bigSep Finset.univ fun o : Dev nD => iprop(atPos ER (kcell (c, cix k o)) 0 ∅ 0 ∗ reached ER (kcell (c, cix k o)) 0) : sProp 𝕄)
      = iprop(pos k c c 0 ∗ pos k c (nxt c) 0 ∗ pos k c (opp c) 0 ∗ pos k c (prv c) 0) := by
    rw [bigSep_ring c]
    simp only [kcell_cix]
    rfl
  rw [h, h, h, h, h, h]
  rfl

/-- What a device starts with, but for buffers and credits. -/
def Lin (c : Dev nD) : sProp 𝕄 := iprop(bpos c 0 ∗ (btok (prv c) 0 ∗ btok (nxt c) 1 ∗ btok (opp c) 2)
    ∗ (reached ER (bcell (prv c)) 0 ∗ reached ER (bcell (nxt c)) 0 ∗ reached ER (bcell (opp c)) 0)
    ∗ (pos 0 c (nxt c) 0 ∗ pos 0 c (opp c) 0 ∗ pos 0 c (prv c) 0)
    ∗ (pos 1 c (nxt c) 0 ∗ pos 1 c (opp c) 0 ∗ pos 1 c (prv c) 0)
    ∗ (tok 0 c (nxt c) 0 ∗ tok 0 c (opp c) 0 ∗ tok 0 c (prv c) 0)
    ∗ (tok 1 (nxt c) c 0 ∗ tok 1 (opp c) c 0 ∗ tok 1 (prv c) c 0)
    ∗ Idle c ∗ Pos12 c 0 ∗ bigSep (Finset.Ico 0 4) (fun u => Tok12 (F := F) c u))
/-- What the opening of all cells yields a device. -/
def G' (c : Dev nD) : sProp 𝕄 := iprop(∃ K, allInv A K ∗ Lin c)

omit [FloatOps F] in
/-- The first round's right. -/
theorem Tr_zero (k : Fin 6) (c o : Dev nD) : (Tr k c o : sProp 𝕄) ⊢ tok k c o 0 := bigSep_elim (Finset.mem_univ (0 : Fin 4))
omit [FloatOps F] in
/-- An array's rights one by one. -/
theorem Ta_open (k : Fin 6) (c : Dev nD) : (Ta k c : sProp 𝕄) ⊢ iprop(Tr k c c ∗ Tr k c (nxt c) ∗ Tr k c (opp c) ∗ Tr k c (prv c)) := BIBase.Entails.rfl
omit [FloatOps F] in
/-- The rights of all steps. -/
theorem Tok_steps (c : Dev nD) :
    iprop(Tr 2 c c ∗ Tr 2 c (prv c) ∗ Tr 2 c (opp c) ∗ Tr 3 (nxt c) c ∗ Tr 3 (nxt c) (prv c) ∗ Tr 3 (nxt c) (opp c) ∗ Tr 4 c c ∗ Tr 4 c (nxt c) ∗ Tr 4 c (opp c) ∗ Tr 5 (prv c) c ∗ Tr 5 (prv c) (nxt c) ∗ Tr 5 (prv c) (opp c))
      = (bigSep (Finset.Ico 0 4) (fun u => Tok12 (F := F) c u) : sProp 𝕄) := by
  rw [← bigSep_steps (fun u => Tok12 (F := F) c u)]
  unfold Tok12 Tr
  simp only [bigSep_sep']

omit [FloatOps F] in
/-- A device's share from its positions, the rights dealt to it and the rounds reached. -/
theorem lin_intro (c : Dev nD) :
    iprop((bigSep Finset.univ fun d : Dev nD => (reached ER (bcell d) 0 : sProp 𝕄)) ∗ Pown c ∗ Tpay c) ⊢ Lin (F := F) c := by
  have hr (d : Dev nD) : (bigSep Finset.univ fun d : Dev nD => (reached ER (bcell d) 0 : sProp 𝕄)) ⊢ reached ER (bcell d) 0 := bigSep_elim (Finset.mem_univ d)
  unfold Pown Tpay T3p T5p Town
  iintro ⟨#HR, ⟨⟨HB, -⟩, ⟨A0, A1, A2, A3⟩, ⟨B0, B1, B2, B3⟩, ⟨C0, C1, C2, C3⟩, ⟨D0, D1, D2, D3⟩, ⟨E0, E1, E2, E3⟩, ⟨F0, F1, F2, F3⟩⟩,
    T0, T1, T2, X0, X1, X2, ⟨R0, R1, R2⟩, ⟨L0, L1, L2⟩, O0, O2, O4⟩
  ihave O0 := (Ta_open (F := F) 0 c) $$ O0
  ihave O2 := (Ta_open (F := F) 2 c) $$ O2
  ihave O4 := (Ta_open (F := F) 4 c) $$ O4
  icases O0 with ⟨-, P1, P2, P3⟩
  icases O2 with ⟨Q0, Q1, Q2, Q3⟩
  icases O4 with ⟨S0, S1, S2, S3⟩
  unfold Lin bpos Idle Pos12
  isplitl [HB]; · iexact HB
  isplitl [T0 T1 T2]
  · isplitl [T0]; · iexact T0
    isplitl [T1]; · iexact T1
    iexact T2
  isplitr
  · isplitr; · iapply (hr (prv c)); iexact HR
    isplitr; · iapply (hr (nxt c)); iexact HR
    iapply (hr (opp c)); iexact HR
  isplitl [A1 A2 A3]
  · isplitl [A1]; · iexact A1
    isplitl [A2]; · iexact A2
    iexact A3
  isplitl [B1 B2 B3]
  · isplitl [B1]; · iexact B1
    isplitl [B2]; · iexact B2
    iexact B3
  isplitl [P1 P2 P3]
  · isplitl [P1]; · iapply (Tr_zero (F := F) 0 c (nxt c)); iexact P1
    isplitl [P2]; · iapply (Tr_zero (F := F) 0 c (opp c)); iexact P2
    iapply (Tr_zero (F := F) 0 c (prv c)); iexact P3
  isplitl [X0 X1 X2]
  · isplitl [X2]; · iapply (Tr_zero (F := F) 1 (nxt c) c); iexact X2
    isplitl [X1]; · iapply (Tr_zero (F := F) 1 (opp c) c); iexact X1
    iapply (Tr_zero (F := F) 1 (prv c) c); iexact X0
  isplitl [A0 B0 C1 D0 E3 F0]
  · isplitl [A0]; · iexact A0
    isplitl [B0]; · iexact B0
    isplitl [C1]; · iexact C1
    isplitl [D0]; · iexact D0
    isplitl [E3]; · iexact E3
    iexact F0
  isplitl [D3 D2 D1 F1 F2 F3 C0 C3 C2 E0 E1 E2]
  · isplitl [D3]; · iexact D3
    isplitl [D2]; · iexact D2
    isplitl [D1]; · iexact D1
    isplitl [F1]; · iexact F1
    isplitl [F2]; · iexact F2
    isplitl [F3]; · iexact F3
    isplitl [C0]; · iexact C0
    isplitl [C3]; · iexact C3
    isplitl [C2]; · iexact C2
    isplitl [E0]; · iexact E0
    isplitl [E1]; · iexact E1
    iexact E2
  iapply (Entails.of_eq (Tok_steps (F := F) c))
  isplitl [Q0]; · iexact Q0
  isplitl [Q3]; · iexact Q3
  isplitl [Q2]; · iexact Q2
  isplitl [R0]; · iexact R0
  isplitl [R1]; · iexact R1
  isplitl [R2]; · iexact R2
  isplitl [S0]; · iexact S0
  isplitl [S1]; · iexact S1
  isplitl [S2]; · iexact S2
  isplitl [L0]; · iexact L0
  isplitl [L1]; · iexact L1
  iexact L2

omit [FloatOps F] in
/-- A persistent fact goes with every member of a family. -/
theorem bigSep_with {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A device's positions tell that its barrier's round is reached. -/
theorem Pown_reached (c : Dev nD) : (Pown c : sProp 𝕄) ⊢ iprop(reached ER (bcell c) 0 ∗ Pown c) := by
  unfold Pown
  iintro ⟨⟨HB, #HR⟩, H⟩
  isplitr; · iexact HR
  isplitl [HB]
  · isplitl [HB]; · iexact HB
    iexact HR
  iexact H

omit [FloatOps F] in
/-- The rights as minted, sorted and dealt. -/
theorem deal : (bigSep Finset.univ fun d : Dev nD => (toks d : sProp 𝕄)) ⊢ bigSep Finset.univ fun c : Dev nD => Tpay c :=
  BIBase.Entails.trans (bigSep_mono fun c _ => toks_open (F := F) c) (toks_around (F := F))
omit [FloatOps F] in
/-- The positions, and the barriers' first rounds. -/
theorem stand : (bigSep Finset.univ fun d : Dev nD => (poss d : sProp 𝕄))
    ⊢ iprop((bigSep Finset.univ fun d : Dev nD => (reached ER (bcell d) 0 : sProp 𝕄)) ∗ bigSep Finset.univ fun d : Dev nD => Pown d) :=
  BIBase.Entails.trans (bigSep_mono fun c _ => BIBase.Entails.trans (Entails.of_eq (poss_eq (F := F) c)) (Pown_reached (F := F) c))
    (Entails.of_eq (bigSep_sep' Finset.univ (fun c : Dev nD => (reached ER (bcell c) 0 : sProp 𝕄)) Pown))

omit [FloatOps F] in
/-- All devices' cells, regrouped. -/
theorem regroup :
    (bigSep Finset.univ fun c : Dev nD => iprop((bigSep Finset.univ fun k => iprop(∃ κ : ℕ, cellInv ER (Rd A) κ (kcell (c, k)))) ∗ poss c ∗ toks c) : sProp 𝕄)
      ⊢ bigSep Finset.univ (G' A) := by
  rw [bigSep_sep', bigSep_sep', ← bigSep_univ_prod (fun ck : Dev nD × Fin 25 => iprop(∃ κ : ℕ, cellInv ER (Rd A) κ (kcell ck)))]
  iintro ⟨HI, Hat, Htok⟩
  ihave HK := (BI.bigSep_exists_pi Finset.univ (fun (ck : Dev nD × Fin 25) (κ : ℕ) => (cellInv ER (Rd A) κ (kcell ck) : sProp 𝕄))) $$ HI
  icases HK with ⟨%K, #HI⟩
  ihave Htk := (deal (F := F)) $$ Htok
  ihave Hat := (stand (F := F)) $$ Hat
  icases Hat with ⟨#HR, Hat⟩
  iapply (bigSep_with (R := iprop(allInv A K ∗ bigSep Finset.univ fun d : Dev nD => (reached ER (bcell d) 0 : sProp 𝕄)))
    (Φ := fun c => iprop(Pown c ∗ Tpay c)) (fun c _ => by
      unfold G'
      iintro ⟨⟨#HI, #HR⟩, H, H'⟩
      iexists K
      isplitr; · iexact HI
      iapply (lin_intro (F := F) c)
      isplitr; · iexact HR
      isplitl [H]; · iexact H
      iexact H'))
  isplitr
  · isplitl; · unfold allInv; iexact HI
    iexact HR
  iapply (Entails.of_eq (bigSep_sep' Finset.univ (fun c : Dev nD => (Pown c : sProp 𝕄)) Tpay).symm)
  isplitl [Hat]; · iexact Hat
  iexact Htk

omit [FloatOps F] in
/-- The opening of all devices' cells at once. -/
theorem glob : (bigSep Finset.univ fun c => iprop(Pipeline.ownSems0 (Ix := ℕ) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

end Cert.KernelIdealRun
-- ==== Proof.KernelIdealEnds.lean ====
/-
# The launch's credits

What the devices owe a cell at launch is what its device awaits there.
-/
module

public import proofs.«01_k».proof.Proof.KernelIdealGhost

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- What the devices owe, each another device, is awaited there. -/
theorem cred_of (p q : Dev nD → Dev nD) (hqp : ∀ d, q (p d) = d) (hpq : ∀ d, p (q d) = d) (f : Dev nD → SemLoc sig) (r n : ℕ) (c : Dev nD) :
    (Pipeline.launchCred (fun d => tallyAt ((p d : Thread nD τ), f d) r n) c : sProp 𝕄) ⊢ cred (tallyAt ((c : Thread nD τ), f (q c)) r n) := by
  refine BIBase.Entails.trans (Pipeline.launchCred_elim _ c (f (q c))) (Entails.of_eq (congrArg cred ?_))
  unfold tallyAt
  refine congrArg _ (Finsupp.ext fun u => ?_)
  rw [Pipeline.launchCredit_owing, Finset.sum_eq_single (q c)]
  · rw [hpq, tallyOn_self]
  · intro d _ hd
    rw [tallyOn_ne (fun h => hd ?_)]
    · rfl
    · have h1 : c = p d := congrArg (fun g : GSem nD τ sig => g.1.1) h
      rw [h1, hqp]
  · intro h; exact absurd (Finset.mem_univ _) h
/-- One entry of the lists they owe. -/
theorem cred_cons (p q : Dev nD → Dev nD) (hqp : ∀ d, q (p d) = d) (hpq : ∀ d, p (q d) = d) (f : Dev nD → SemLoc sig) (r n : ℕ) (l : Dev nD → List (GSem nD τ sig × ℕ × ℕ)) (c : Dev nD) :
    (Pipeline.launchCred (fun d => oblig ((((p d : Thread nD τ), f d), r, n) :: l d)) c : sProp 𝕄)
      ⊢ iprop(cred (tallyAt ((c : Thread nD τ), f (q c)) r n) ∗ Pipeline.launchCred (fun d => oblig (l d)) c) := by
  refine BIBase.Entails.trans (Entails.of_eq (Pipeline.launchCred_add (fun d => oblig (l d)) (fun d => tallyAt ((p d : Thread nD τ), f d) r n) c)) ?_
  iintro ⟨H, H'⟩
  isplitl [H']; · iapply (cred_of p q hqp hpq f r n c); iexact H'
  iexact H
/-- An entry for a copy's landing. -/
theorem crd_cons (k : Fin 6) (p q : Dev nD → Dev nD) (hqp : ∀ d, q (p d) = d) (hpq : ∀ d, p (q d) = d) (h : Dev nD → Dev nD) (r : ℕ) (l : Dev nD → List (GSem nD τ sig × ℕ × ℕ)) (c : Dev nD) {o : Dev nD} (ho : h (q c) = o) :
    (Pipeline.launchCred (fun d => oblig ((cell k (p d) (h d), r, N) :: l d)) c : sProp 𝕄)
      ⊢ iprop(crd k c o r ∗ Pipeline.launchCred (fun d => oblig (l d)) c) := by
  subst ho
  exact cred_cons p q hqp hpq (fun d => .dma (dsem k (h d))) r N l c

/-- A step's credits. -/
theorem step_creds (c : Dev nD) {t : ℕ} (ht : t < 4) :
    (Pipeline.launchCred (fun d => oblig (futL d t)) c : sProp 𝕄) ⊢ iprop(Crd6 c t ∗ Pipeline.launchCred (fun d => oblig (futL d (t + 1))) c) := by
  rw [show (fun d => oblig (futL d t)) = (fun d => oblig (l0 d t)) from funext fun d => by rw [futL_l0 d ht]]
  iintro H
  ihave H := (crd_cons 3 nxt prv prv_nxt nxt_prv (fun d => d) t (fun d => l1 d t) c (o := prv c) rfl) $$ H
  icases H with ⟨A1, H⟩
  ihave H := (crd_cons 5 prv nxt nxt_prv prv_nxt (fun d => d) t (fun d => l2 d t) c (o := nxt c) rfl) $$ H
  icases H with ⟨B1, H⟩
  ihave H := (crd_cons 3 nxt prv prv_nxt nxt_prv (fun d => prv d) t (fun d => l3 d t) c (o := opp c) (prv_prv c)) $$ H
  icases H with ⟨A2, H⟩
  ihave H := (crd_cons 5 prv nxt nxt_prv prv_nxt (fun d => nxt d) t (fun d => l4 d t) c (o := opp c) (nxt_nxt c)) $$ H
  icases H with ⟨B2, H⟩
  ihave H := (crd_cons 3 nxt prv prv_nxt nxt_prv (fun d => opp d) t (fun d => l5 d t) c (o := nxt c) (opp_prv c)) $$ H
  icases H with ⟨A3, H⟩
  ihave H := (crd_cons 5 prv nxt nxt_prv prv_nxt (fun d => opp d) t (fun d => futL d (t + 1)) c (o := prv c) (opp_nxt c)) $$ H
  icases H with ⟨B3, H⟩
  isplitr [H]
  · unfold Crd6
    isplitl [A1]; · iexact A1
    isplitl [A2]; · iexact A2
    isplitl [A3]; · iexact A3
    isplitl [B1]; · iexact B1
    isplitl [B2]; · iexact B2
    iexact B3
  iexact H
/-- The first step's, on from the entries before it. -/
theorem all_steps (c : Dev nD) :
    (Pipeline.launchCred (fun d => oblig (futL d 0)) c : sProp 𝕄) ⊢ bigSep (Finset.Ico 0 4) (fun u => Crd6 (F := F) c u) := by
  rw [bigSep_eq_bigSepL_of_eq [0, 1, 2, 3] (by decide) (by decide), bigSepL_cons_cons, bigSepL_cons_cons, bigSepL_cons_cons, bigSepL_singleton]
  have h : (Pipeline.launchCred (fun d => oblig (futL d 0)) c : sProp 𝕄) ⊢ iprop(Crd6 c 0 ∗ Crd6 c 1 ∗ Crd6 c 2 ∗ Crd6 c 3) := by
    iintro H
    ihave H := (step_creds c (t := 0) (by decide)) $$ H
    icases H with ⟨H0, H⟩
    ihave H := (step_creds c (t := 1) (by decide)) $$ H
    icases H with ⟨H1, H⟩
    ihave H := (step_creds c (t := 2) (by decide)) $$ H
    icases H with ⟨H2, H⟩
    ihave H := (step_creds c (t := 3) (by decide)) $$ H
    icases H with ⟨H3, -⟩
    isplitl [H0]; · iexact H0
    isplitl [H1]; · iexact H1
    isplitl [H2]; · iexact H2
    iexact H3
  exact h
/-- Three units of a barrier. -/
theorem three_units (c : Dev nD) :
    iprop(cred (tallyAt (bcell c) 0 1) ∗ cred (tallyAt (bcell c) 0 1) ∗ cred (tallyAt (bcell c) 0 1)) ⊢ (cred (tallyAt (bcell c) 0 3) : sProp 𝕄) := by
  have h : (tallyAt (bcell c) 0 3 : CellTallies nD τ sig ℕ) = tallyAt (bcell c) 0 1 + (tallyAt (bcell c) 0 1 + tallyAt (bcell c) 0 1) := by
    rw [tallyAt_add, tallyAt_add]
  refine BIBase.Entails.trans (sep_mono_right (cred_add _ _).2) (BIBase.Entails.trans (cred_add _ _).2 (Entails.of_eq (congrArg cred h.symm)))
/-- All the launch's credits. -/
theorem creds (c : Dev nD) :
    (Pipeline.launchCred (fun d => oblig (lB0 d)) c : sProp 𝕄)
      ⊢ iprop(cred (tallyAt (bcell c) 0 3) ∗ (crd 1 c (nxt c) 0 ∗ crd 1 c (opp c) 0 ∗ crd 1 c (prv c) 0) ∗ bigSep (Finset.Ico 0 4) (fun u => Crd6 (F := F) c u)) := by
  iintro H
  ihave H := (cred_cons prv nxt nxt_prv prv_nxt (fun _ => barS) 0 1 (fun d => lB1 d) c) $$ H
  icases H with ⟨B0, H⟩
  ihave H := (cred_cons nxt prv prv_nxt nxt_prv (fun _ => barS) 0 1 (fun d => lB2 d) c) $$ H
  icases H with ⟨B1, H⟩
  ihave H := (cred_cons opp opp opp_opp opp_opp (fun _ => barS) 0 1 (fun d => lx0 d) c) $$ H
  icases H with ⟨B2, H⟩
  ihave H := (crd_cons 1 prv nxt nxt_prv prv_nxt (fun d => d) 0 (fun d => lx1 d) c (o := nxt c) rfl) $$ H
  icases H with ⟨X0, H⟩
  ihave H := (crd_cons 1 nxt prv prv_nxt nxt_prv (fun d => d) 0 (fun d => lx2 d) c (o := prv c) rfl) $$ H
  icases H with ⟨X1, H⟩
  ihave H := (crd_cons 1 opp opp opp_opp opp_opp (fun d => d) 0 (fun d => lx3 d) c (o := opp c) rfl) $$ H
  icases H with ⟨X2, H⟩
  isplitl [B0 B1 B2]
  · iapply (three_units c)
    isplitl [B0]; · iexact B0
    isplitl [B1]; · iexact B1
    iexact B2
  isplitl [X0 X1 X2]
  · isplitl [X0]; · iexact X0
    isplitl [X2]; · iexact X2
    iexact X1
  iapply (all_steps c)
  rw [show (fun d => oblig (futL d 0)) = (fun d => oblig (lx3 d)) from funext fun d => by rw [futL_l0 d (by decide)]]
  iexact H

/-- What a device holds before the first step, from the cells, the credits and its four buffers. -/
theorem start_of (c : Dev nD) :
    iprop(Lin c ∗ Pipeline.launchCred (fun d => oblig (lB0 d)) c ∗ (∃ X, ownsTc c xM fullShare X) ∗ (∃ X, ownsTc c rM fullShare X) ∗ (∃ X, ownsTc c lM fullShare X)
        ∗ (∃ X, ownsTc c aM fullShare X)) ⊢ (Start (F := F) c : sProp 𝕄) := by
  unfold Lin Start
  iintro ⟨⟨H1, H2, H3, H4, H5, H6, H7, H8, H9, HT⟩, HC, ⟨%X, HX⟩, ⟨%R, HR⟩, ⟨%Y, HL⟩, HA⟩
  ihave HC := (creds c) $$ HC
  icases HC with ⟨C0, C1, C2⟩
  isplitl [HX]; · iapply (slots_split c xM X); iexact HX
  isplitl [HR]; · iapply (slots_split c rM R); iexact HR
  isplitl [HL]; · iapply (slots_split c lM Y); iexact HL
  isplitl [HA]; · iexact HA
  isplitl [H1]; · iexact H1
  isplitl [C0]; · iexact C0
  isplitl [H2]; · iexact H2
  isplitl [H3]; · iexact H3
  isplitl [H4]; · iexact H4
  isplitl [H5]; · iexact H5
  isplitl [H6]; · iexact H6
  isplitl [H7]; · iexact H7
  isplitl [C1]; · iexact C1
  isplitl [H8]; · iexact H8
  isplitl [H9]; · iexact H9
  unfold Wk
  iapply (Entails.of_eq (bigSep_sep' (Finset.Ico 0 4) (fun u => Tok12 (F := F) c u) (fun u => Crd6 c u)).symm)
  isplitl [HT]; · iexact HT
  iexact C2

/-! ## Closing the cells -/

variable (A : Args F) (K : Dev nD × Fin 25 → ℕ)

omit [FloatOps F] in
/-- A copy's semaphore, no round of which is left, is at rest. -/
theorem close_dma (k : Fin 6) (c o : Dev nD) (r : ℕ) (h : ∀ r', r ≤ r' → active c k.val o r' = false) :
    iprop(allInv A K ∗ pos k c o r) ⊢ (|={Set.univ}=> semVal (cell k c o) 0 : sProp 𝕄) := by
  unfold pos
  iintro ⟨#HI, Hat, -⟩
  ihave Hg := (inv_dma A K k c o) $$ HI
  iapply (Rounds.cell_close ER (Rd A) (Set.mem_univ (K (c, cix k o))) (fun h => h) (R := r) (fun r' hr => duties_dma_none A (h r' hr)))
  isplitl [Hg]; · iexact Hg
  iexact Hat
omit [FloatOps F] in
/-- So is the barrier. -/
theorem close_bar (c : Dev nD) : iprop(allInv A K ∗ bpos c 1) ⊢ (|={Set.univ}=> semVal (bcell c) 0 : sProp 𝕄) := by
  unfold bpos
  iintro ⟨#HI, Hat⟩
  ihave Hg := (inv_bar A K c) $$ HI
  iapply (Rounds.cell_close ER (Rd A) (Set.mem_univ (K (c, 0))) (fun h => h) (R := 1) (fun r' hr => duties_bar_later A c r' hr))
  isplitl [Hg]; · iexact Hg
  iexact Hat
omit [FloatOps F] in
/-- An array's four semaphores at rest. -/
theorem close_arr (k : Fin 6) (c : Dev nD) (r r1 r2 r3 : ℕ) (h : ∀ r', r ≤ r' → active c k.val c r' = false) (h1 : ∀ r', r1 ≤ r' → active c k.val (nxt c) r' = false)
    (h2 : ∀ r', r2 ≤ r' → active c k.val (opp c) r' = false) (h3 : ∀ r', r3 ≤ r' → active c k.val (prv c) r' = false) :
    iprop(allInv A K ∗ pos k c c r ∗ pos k c (nxt c) r1 ∗ pos k c (opp c) r2 ∗ pos k c (prv c) r3)
      ⊢ (|={Set.univ}=> bigSep Finset.univ fun o : Dev nD => semVal (kcell (c, cix k o)) 0 : sProp 𝕄) := by
  rw [bigSep_ring c]
  simp only [kcell_cix]
  iintro ⟨#HI, H, H1, H2, H3⟩
  imod (close_dma A K k c c r h) $$ [H] with H
  · isplitr; · iexact HI
    iexact H
  imod (close_dma A K k c (nxt c) r1 h1) $$ [H1] with H1
  · isplitr; · iexact HI
    iexact H1
  imod (close_dma A K k c (opp c) r2 h2) $$ [H2] with H2
  · isplitr; · iexact HI
    iexact H2
  imod (close_dma A K k c (prv c) r3 h3) $$ [H3] with H3
  · isplitr; · iexact HI
    iexact H3
  imodintro
  isplitl [H]; · iexact H
  isplitl [H1]; · iexact H1
  isplitl [H2]; · iexact H2
  iexact H3

/-- No first or second array's round beyond the first. -/
theorem act_x {c o : Dev nD} {k : ℕ} (hk : k < 2) (r' : ℕ) (h : 1 ≤ r') : active c k o r' = false := by
  have h0 : r' ≠ 0 := by omega
  match k, hk with
  | 0, _ => exact decide_eq_false fun h' => h0 h'.2
  | 1, _ => exact decide_eq_false fun h' => h0 h'.2
/-- Nor any of another beyond the fourth. -/
theorem act_w {c o : Dev nD} {k : ℕ} (hk : 2 ≤ k) (r' : ℕ) (h : 4 ≤ r') : active c k o r' = false := by
  have h0 : ¬ r' < 4 := by omega
  match k, hk with
  | 2, _ => exact decide_eq_false fun h' => h0 h'.2
  | 3, _ => exact decide_eq_false fun h' => h0 h'.2
  | 4, _ => exact decide_eq_false fun h' => h0 h'.2
  | 5, _ => exact decide_eq_false fun h' => h0 h'.2
  | _ + 6, _ => rfl
/-- Nor any at all of a device's own block or of one nothing is sent from. -/
theorem act_own {c : Dev nD} {k : ℕ} (hk : k = 0 ∨ k = 1 ∨ k = 3 ∨ k = 5) (r' : ℕ) (h : 0 ≤ r') : active c k c r' = false := by
  rcases hk with rfl | rfl | rfl | rfl <;> exact decide_eq_false fun h' => h'.1 rfl
/-- The right neighbour's block is not sent on right. -/
theorem act_2 {c : Dev nD} (r' : ℕ) (h : 0 ≤ r') : active c 2 (nxt c) r' = false := decide_eq_false fun h' => h'.1 rfl
/-- Nor the left neighbour's left. -/
theorem act_4 {c : Dev nD} (r' : ℕ) (h : 0 ≤ r') : active c 4 (prv c) r' = false := decide_eq_false fun h' => h'.1 rfl

/-- What a device leaves: four buffers and its semaphores at rest. -/
def Done (c : Dev nD) : sProp 𝕄 := iprop(((∃ X, ownsTc c xM fullShare X) ∗ (∃ X, ownsTc c rM fullShare X) ∗ (∃ X, ownsTc c lM fullShare X) ∗ (∃ X, ownsTc c aM fullShare X))
  ∗ bigSep Finset.univ fun k : Fin 25 => semVal (kcell (c, k)) 0)

omit [FloatOps F] in
/-- After the last step the slots not passed on are the device's. -/
theorem End_four (c : Dev nD) : (End c 4 : sProp 𝕄) ⊢ iprop(SLx rM c (prv c) ∗ SLx lM c (nxt c)) := Entails.of_eq (if_neg (by decide))

/-- Leaving. -/
theorem finish (c : Dev nD) : iprop(allInv A K ∗ Mid A c 4 ∗ Rest c) ⊢ (|={Set.univ}=> Done (F := F) c : sProp 𝕄) := by
  unfold Mid Rest Done Pos12 Idle
  iintro ⟨#HI, ⟨HX, XN, XO, XP, RO, LO, RN, LP, HAL, HAR, HE, ⟨P3p, P3o, P3n, P5n, P5o, P5p, P2c, P2p, P2o, P4c, P4n, P4o⟩, -⟩,
    RC, LC, HB, ⟨P0n, P0o, P0p⟩, I0, I1, I2, I3, I4, I5⟩
  ihave XN := (XD_open A c (nxt c)) $$ XN
  ihave XO := (XD_open A c (opp c)) $$ XO
  ihave XP := (XD_open A c (prv c)) $$ XP
  ihave HE := (End_four (F := F) c) $$ HE
  icases XN with ⟨XN, P1n⟩
  icases XO with ⟨XO, P1o⟩
  icases XP with ⟨XP, P1p⟩
  icases HE with ⟨RP, LN⟩
  imod (close_bar A K c) $$ [HB] with HB
  · isplitr; · iexact HI
    iexact HB
  imod (close_arr A K 0 c 0 1 1 1 (act_own (.inl rfl)) (act_x (by decide)) (act_x (by decide)) (act_x (by decide))) $$ [I0 P0n P0o P0p] with H0
  · isplitr; · iexact HI
    isplitl [I0]; · iexact I0
    isplitl [P0n]; · iexact P0n
    isplitl [P0o]; · iexact P0o
    iexact P0p
  imod (close_arr A K 1 c 0 1 1 1 (act_own (.inr (.inl rfl))) (act_x (by decide)) (act_x (by decide)) (act_x (by decide))) $$ [I1 P1n P1o P1p] with H1
  · isplitr; · iexact HI
    isplitl [I1]; · iexact I1
    isplitl [P1n]; · iexact P1n
    isplitl [P1o]; · iexact P1o
    iexact P1p
  imod (close_arr A K 2 c 4 0 4 4 (act_w (by decide)) act_2 (act_w (by decide)) (act_w (by decide))) $$ [P2c I2 P2o P2p] with H2
  · isplitr; · iexact HI
    isplitl [P2c]; · iexact P2c
    isplitl [I2]; · iexact I2
    isplitl [P2o]; · iexact P2o
    iexact P2p
  imod (close_arr A K 3 c 0 4 4 4 (act_own (.inr (.inr (.inl rfl)))) (act_w (by decide)) (act_w (by decide)) (act_w (by decide))) $$ [I3 P3n P3o P3p] with H3
  · isplitr; · iexact HI
    isplitl [I3]; · iexact I3
    isplitl [P3n]; · iexact P3n
    isplitl [P3o]; · iexact P3o
    iexact P3p
  imod (close_arr A K 4 c 4 4 4 0 (act_w (by decide)) (act_w (by decide)) (act_w (by decide)) act_4) $$ [P4c P4n P4o I4] with H4
  · isplitr; · iexact HI
    isplitl [P4c]; · iexact P4c
    isplitl [P4n]; · iexact P4n
    isplitl [P4o]; · iexact P4o
    iexact I4
  imod (close_arr A K 5 c 0 4 4 4 (act_own (.inr (.inr (.inr rfl)))) (act_w (by decide)) (act_w (by decide)) (act_w (by decide))) $$ [I5 P5n P5o P5p] with H5
  · isplitr; · iexact HI
    isplitl [I5]; · iexact I5
    isplitl [P5n]; · iexact P5n
    isplitl [P5o]; · iexact P5o
    iexact P5p
  imodintro
  isplitr [HB H0 H1 H2 H3 H4 H5]
  · isplitl [HX XN XO XP]
    · iapply (slots_join c xM)
      isplitl [HX]; · iapply (SL_any xM c c (xrow A c c)); iexact HX
      isplitl [XN]; · iapply (SL_any xM c (nxt c) (xrow A (nxt c) c)); iexact XN
      isplitl [XO]; · iapply (SL_any xM c (opp c) (xrow A (opp c) c)); iexact XO
      iapply (SL_any xM c (prv c) (xrow A (prv c) c)); iexact XP
    isplitl [RC RN RO RP]
    · iapply (slots_join c rM)
      isplitl [RC]; · iexact RC
      isplitl [RN]; · iapply (SL_any rM c (nxt c) (wl A (nxt c) (4 - 1))); iexact RN
      isplitl [RO]; · iexact RO
      iexact RP
    isplitl [LC LN LO LP]
    · iapply (slots_join c lM)
      isplitl [LC]; · iexact LC
      isplitl [LN]; · iexact LN
      isplitl [LO]; · iexact LO
      iapply (SL_any lM c (prv c) (wr A (prv c) (4 - 1))); iexact LP
    · iexists (joinLR (accL A c (4 - 1)) (accR A c (4 - 1)))
      iapply (tile_joinLR c aM fullShare (accL A c (4 - 1)) (accR A c (4 - 1)))
      isplitl [HAL]; · iexact HAL
      iexact HAR
  iapply (Entails.of_eq ((bigSep_sems (F := F) (fun k => semVal (kcell (c, k)) 0)).trans (congrArg (fun P => iprop(semVal (bcell c) 0 ∗ P)) (bigSep_six (F := F) _))).symm)
  isplitl [HB]; · iexact HB
  isplitl [H0]; · iexact H0
  isplitl [H1]; · iexact H1
  isplitl [H2]; · iexact H2
  isplitl [H3]; · iexact H3
  isplitl [H4]; · iexact H4
  iexact H5

end Cert.KernelIdealRun
-- ==== Proof.KernelIdealLaunch.lean ====
/-
# The run

The pipeline's proof data, the body at each point, and the run of the program with the result's contents.
-/
module

public import proofs.«01_k».proof.Proof.KernelIdealBody
public import proofs.«01_k».proof.Proof.KernelIdealEnds
public import proofs.«01_k».proof.Proof.Gen.KernelIdeal.Frame

@[expose] public section

set_option maxRecDepth 8000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The point of a number. -/
def pt (t : ℕ) : Fin cfg0.N := ⟨min t 4, by rw [show cfg0.N = 5 from N_0]; omega⟩

/-- The operands' contents, from memory. -/
def argsOf : Args F where
  x c := iblk m c 0 t0_0
  w c t := iblk m c 1 (pt t)
  sx c := iblk m c 2 t0_0
  sw c := iblk m c 3 t0_0

/-- The slots of the windows, two of which alternate. -/
def sl (a b : Fin 2) : (w : Fin cfg0.W) → Fin (cfg0.win w).nbuf := fun | 0 => (0 : Fin 1) | 1 => a | 2 => (0 : Fin 1) | 3 => (0 : Fin 1) | 4 => b | ⟨_ + 5, h⟩ => absurd h (Nat.not_lt.2 (Nat.le_add_left _ _))
/-- At the first point. -/
theorem slots_0 : cfg0.slots t0_0 = sl 0 0 := by funext w; fin_cases w <;> rfl
/-- At the second. -/
theorem slots_1 : cfg0.slots t0_1 = sl 1 0 := by funext w; fin_cases w <;> rfl
/-- At the third. -/
theorem slots_2 : cfg0.slots t0_2 = sl 0 1 := by funext w; fin_cases w <;> rfl
/-- At the fourth. -/
theorem slots_3 : cfg0.slots t0_3 = sl 1 0 := by funext w; fin_cases w <;> rfl
/-- At the last. -/
theorem slots_4 : cfg0.slots t0_4 = sl 1 1 := by funext w; fin_cases w <;> rfl

/-- The invariant between points. -/
def PhiN (c : Dev nD) (n : ℕ) : sProp 𝕄 :=
  if n = 0 then iprop(∃ K, ctx (argsOf m) K ∗ Start c)
  else if n < 5 then iprop(∃ K, ctx (argsOf m) K ∗ Mid (argsOf m) c n ∗ Rest c)
  else Done c
/-- What is owed between points. -/
def oweN (c : Dev nD) (n : ℕ) : List (GSem nD τ sig × ℕ × ℕ) := if n = 0 then lB0 c else futL c n

/-- The pipeline's proof data. -/
def dats (_ : Fin 1) (c : Dev nD) : Dat τ (Elt F) ℕ ℕ UU ℕ cfg0 c where
  A w := (s₀ m ρ).mem ((cfg0.win w).arr.view.loc (c : Thread nD τ))
  after w t := match w with
    | 0 => iblk m c 0 t
    | 1 => iblk m c 1 t
    | 2 => iblk m c 2 t
    | 3 => iblk m c 3 t
    | 4 => outT (argsOf m) c (t.val - 1)
    | ⟨_ + 5, h⟩ => absurd h (Nat.not_lt.2 (Nat.le_add_left _ _))
  Φ n := PhiN m c n.val
  q _ := fullShare
  owed n := oblig (oweN c n.val)

/-! ## The body at each point -/

/-- The staged activations are the array's block. -/
theorem before_0 (c : Dev nD) (t : Fin cfg0.N) (d) : (dats m ρ 0 c).before 0 t d = iblk m c 0 t :=
  ((dats m ρ 0 c).before_in_eq_fetched 0 rfl (fun _ => rfl) (fun _ _ _ => rfl) (fun _ => rfl) t d).trans rfl
/-- So is the weight tile. -/
theorem before_1 (c : Dev nD) (t : Fin cfg0.N) (d) : (dats m ρ 0 c).before 1 t d = iblk m c 1 t :=
  ((dats m ρ 0 c).before_in_eq_fetched 1 rfl (fun _ => rfl) (fun _ _ _ => rfl) (fun _ => rfl) t d).trans rfl
/-- And each scale. -/
theorem before_2 (c : Dev nD) (t : Fin cfg0.N) (d) : (dats m ρ 0 c).before 2 t d = iblk m c 2 t :=
  ((dats m ρ 0 c).before_in_eq_fetched 2 rfl (fun _ => rfl) (fun _ _ _ => rfl) (fun _ => rfl) t d).trans rfl
/-- And each scale. -/
theorem before_3 (c : Dev nD) (t : Fin cfg0.N) (d) : (dats m ρ 0 c).before 3 t d = iblk m c 3 t :=
  ((dats m ρ 0 c).before_in_eq_fetched 3 rfl (fun _ => rfl) (fun _ _ _ => rfl) (fun _ => rfl) t d).trans rfl
/-- A scale is the same at every point. -/
theorem iblk_2 (c : Dev nD) (t : Fin cfg0.N) : iblk m c 2 t = (argsOf m).sx c := rfl
/-- So is the other. -/
theorem iblk_3 (c : Dev nD) (t : Fin cfg0.N) : iblk m c 3 t = (argsOf m).sw c := rfl
/-- The weight tile of a point, by its number. -/
theorem iblk_1 (c : Dev nD) (t : Fin cfg0.N) : iblk m c 1 t = (argsOf m).w c t.val := by
  have h : pt t.val = t := Fin.ext (by show min t.val 4 = t.val; have := lt_of_lt_of_eq t.isLt N_0; omega)
  show _ = iblk m c 1 (pt t.val)
  rw [h]

/-- The invariants, out of all that is known throughout. -/
theorem ctx_inv (A : Args F) (K) : ctx A K ⊢ allInv A K := by
  unfold ctx; iintro ⟨H, -⟩; iexact H
/-- What the pipeline lets a core have owed, as a list. -/
theorem owes_in (c : Dev nD) (n : Fin (cfg0.N + 1)) (l) (h : oweN c n.val = l) : (dats m ρ 0 c).owesAt 0 n ⊢ owesX c l := by
  subst h
  unfold Dat.owesAt Pipeline.owesWithin owesX
  iintro ⟨%W, -, H⟩
  iexists W; iexact H
/-- And back. -/
theorem owes_out (c : Dev nD) (n : Fin (cfg0.N + 1)) (l) (h : oweN c n.val = l) : owesX c l ⊢ (dats m ρ 0 c).owesAt 0 n := by
  subst h
  unfold Dat.owesAt Pipeline.owesWithin owesX
  iintro ⟨%W, H⟩
  iexists W
  isplitr; · ipureintro; exact fun _ _ => Or.inl trivial
  iexact H

/-- The pipeline's obligation at a point, its windows staged in given slots. -/
def BodyAt (c : Dev nD) (t : Fin cfg0.N) (l : (w : Fin cfg0.W) → Fin (cfg0.win w).nbuf) : Prop := iprop((dats m ρ 0 c).Φ t.castSucc ∗ (dats m ρ 0 c).owesAt 0 t.castSucc
        ∗ bigSep Finset.univ fun w : Fin cfg0.W => iprop(∃ d, owns (c : Thread nD τ) ((cfg0.win w).stage (l w)) fullShare ((dats m ρ 0 c).before w t d)))
      ⊢ wp frame (wpE (defs₀ (F := F)) 𝒱₀ (c : Thread nD τ) none) Set.univ (defs₀ .tc cfg0.body (cfg0.bodyArgs t l)) fun _ =>
          iprop((dats m ρ 0 c).Φ t.succ ∗ (dats m ρ 0 c).owesAt 0 t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (l w)) fullShare ((dats m ρ 0 c).before w t d))
                    | true => owns (c : Thread nD τ) ((cfg0.win w).stage (l w)) fullShare ((dats m ρ 0 c).after w t)
                  | false => owns (c : Thread nD τ) ((cfg0.win w).stage (l w)) fullShare ((dats m ρ 0 c).after w t))

/-- The body at the first point. -/
theorem body_0 (c : Dev nD) : BodyAt m ρ c t0_0 (sl 0 0) := by
  unfold BodyAt
  rw [bigSep_W0, bigSep_W0]
  simp only [before_0, before_1, before_2, before_3]
  have hi : idle0 4 (grid0.coords t0_0) = true := by decide
  have hf : (win0 4).flush t0_0 = false := by decide
  rw [hi, hf]
  show iprop(iprop(∃ K, ctx (argsOf m) K ∗ Start c) ∗ _ ∗ iprop(∃ d, ownsTc c xS fullShare ((argsOf m).x c)) ∗ iprop(∃ d, ownsTc c (wS (par 0)) fullShare ((argsOf m).w c 0))
      ∗ iprop(∃ d, ownsTc c (Memref.whole cc0_stg2_0) fullShare ((argsOf m).sx c)) ∗ iprop(∃ d, ownsTc c (Memref.whole cc0_stg3_0) fullShare ((argsOf m).sw c))
      ∗ iprop(∃ d, ownsTc c (oS 0) fullShare ((dats m ρ 0 c).before 4 t0_0 d))) ⊢ wp _ _ _ (cc0_body (grid0.coords t0_0) xS _ (wS (par 0)) _ (Memref.whole cc0_stg2_0) _ (Memref.whole cc0_stg3_0) _ (oS 0) _
        xM _ rM _ lM _ aM _ cc0_scratch4 cc0_scratch5 cc0_scratch6 cc0_scratch7 cc0_scratch8 cc0_scratch9)
      fun _ => iprop(iprop(∃ K, ctx (argsOf m) K ∗ Mid (argsOf m) c 1 ∗ Rest c) ∗ _ ∗ ownsTc c xS fullShare ((argsOf m).x c) ∗ ownsTc c (wS (par 0)) fullShare ((argsOf m).w c 0)
        ∗ ownsTc c (Memref.whole cc0_stg2_0) fullShare ((argsOf m).sx c) ∗ ownsTc c (Memref.whole cc0_stg3_0) fullShare ((argsOf m).sw c) ∗ iprop(∃ d, ownsTc c (oS 0) fullShare ((dats m ρ 0 c).before 4 t0_0 d)))
  iintro ⟨⟨%K, #HC, HS⟩, HO, ⟨%d0, H0⟩, ⟨%d1, H1⟩, ⟨%d2, H2⟩, ⟨%d3, H3⟩, ⟨%d4, H4⟩⟩
  ihave HO := (owes_in m ρ c t0_0.castSucc _ rfl) $$ HO
  iapply (step_first (argsOf m) K c (grid0.coords t0_0) 0 (by decide) (by decide) (by decide) (by decide) (by decide) ((dats m ρ 0 c).before 4 t0_0 d4)) $$ [HS HO H0 H1 H2 H3 H4]
  · isplitr; · iexact HC
    isplitl [H0]; · iexact H0
    isplitl [H1]; · iexact H1
    isplitl [H2]; · iexact H2
    isplitl [H3]; · iexact H3
    isplitl [H4]; · iexact H4
    isplitl [HS]; · iexact HS
    iexact HO
  iintro ⟨H0, H1, H2, H3, H4, ⟨HM, HR⟩, HO⟩
  ihave HO := (owes_out m ρ c t0_0.succ (futL c (0 + 1)) rfl) $$ HO
  isplitl [HM HR]
  · iexists K
    isplitr; · iexact HC
    isplitl [HM]; · iexact HM
    iexact HR
  isplitl [HO]; · iexact HO
  isplitl [H0]; · iexact H0
  isplitl [H1]; · iexact H1
  isplitl [H2]; · iexact H2
  isplitl [H3]; · iexact H3
  iexists d4; iexact H4
/-- The body at a point between: what the pipeline hands it, and what it hands back. -/
theorem body_mid {D0 D1 D2 D3 D4 : Type} (c : Dev nD) (i : grid0.Coords) (s : Fin 2) (t : ℕ) (ht0 : 0 < t) (ht : t < 4) (hc4 : k0_cond4 i = 1#1) (hc5 : k0_cond5 i = 1#1 ↔ false = true) (hc6 : k0_cond6 i = 1#1 ↔ false = true)
    (hc : (k0_cond1 i = 1#1) = False ∧ (k0_cond2 i = 1#1) = True ∧ (k0_cond3 i = 1#1) = True ∧ (k0_cond4 i = 1#1) = True ∧ (k0_cond7 i = 1#1) = False)
    (X : S4096x1024.Idx → Elt F .fp8e4m3) (B : D4 → S1024x2048.Idx → Elt F .f32) {O O' : sProp 𝕄} (hO : O ⊢ owesX c (futL c t)) (hO' : owesX c (futL c (t + 1)) ⊢ O')
    {h1 : xS.IsWhole} {h2 : (wS (par t)).IsWhole} {h3 : (Memref.whole cc0_stg2_0 : Memref sig .tc .smem S1 .f32).IsWhole} {h4 : (Memref.whole cc0_stg3_0 : Memref sig .tc .smem S1 .f32).IsWhole}
    {h5 : (oS s).IsWhole} {h6 : xM.IsWhole} {h7 : rM.IsWhole} {h8 : lM.IsWhole} {h9 : aM.IsWhole} :
    iprop(iprop(∃ K, ctx (argsOf m) K ∗ Mid (argsOf m) c t ∗ Rest c) ∗ O ∗ iprop(∃ _d : D0, ownsTc c xS fullShare X) ∗ iprop(∃ _d : D1, ownsTc c (wS (par t)) fullShare ((argsOf m).w c t))
      ∗ iprop(∃ _d : D2, ownsTc c (Memref.whole cc0_stg2_0) fullShare ((argsOf m).sx c)) ∗ iprop(∃ _d : D3, ownsTc c (Memref.whole cc0_stg3_0) fullShare ((argsOf m).sw c))
      ∗ iprop(∃ d : D4, ownsTc c (oS s) fullShare (B d))) ⊢ wp frame (wpE (defs₀ (F := F)) 𝒱₀ (c : Thread nD τ) none) Set.univ (cc0_body i xS h1 (wS (par t)) h2 (Memref.whole cc0_stg2_0) h3 (Memref.whole cc0_stg3_0) h4 (oS s) h5 xM h6 rM h7 lM h8 aM h9
              cc0_scratch4 cc0_scratch5 cc0_scratch6 cc0_scratch7 cc0_scratch8 cc0_scratch9)
      fun _ => iprop(iprop(∃ K, ctx (argsOf m) K ∗ Mid (argsOf m) c (t + 1) ∗ Rest c) ∗ O' ∗ ownsTc c xS fullShare X ∗ ownsTc c (wS (par t)) fullShare ((argsOf m).w c t)
        ∗ ownsTc c (Memref.whole cc0_stg2_0) fullShare ((argsOf m).sx c) ∗ ownsTc c (Memref.whole cc0_stg3_0) fullShare ((argsOf m).sw c) ∗ ownsTc c (oS s) fullShare (outT (argsOf m) c (t - 1))) := by
  iintro ⟨⟨%K, #HC, HM, HR⟩, HO, ⟨%d0, H0⟩, ⟨%d1, H1⟩, ⟨%d2, H2⟩, ⟨%d3, H3⟩, ⟨%d4, H4⟩⟩
  ihave HO := hO $$ HO
  iapply (step_mid (argsOf m) K c i s t ht0 ht hc4 hc5 hc6 hc (B d4)) $$ [HM HO H1 H2 H3 H4]
  · isplitr; · iexact HC
    isplitl [H1]; · iexact H1
    isplitl [H2]; · iexact H2
    isplitl [H3]; · iexact H3
    isplitl [H4]; · iexact H4
    isplitl [HM]; · iexact HM
    iexact HO
  iintro ⟨H1, H2, H3, H4, HM, HO⟩
  ihave HO := hO' $$ HO
  isplitl [HM HR]
  · iexists K
    isplitr; · iexact HC
    isplitl [HM]; · iexact HM
    iexact HR
  isplitl [HO]; · iexact HO
  isplitl [H0]; · iexact H0
  isplitl [H1]; · iexact H1
  isplitl [H2]; · iexact H2
  isplitl [H3]; · iexact H3
  iexact H4

/-- The body at point 1. -/
theorem body_1 (c : Dev nD) : BodyAt m ρ c t0_1 (sl 1 0) := by
  unfold BodyAt
  rw [bigSep_W0, bigSep_W0]
  simp only [before_0, before_1, before_2, before_3]
  rw [show idle0 4 (grid0.coords t0_1) = false by decide]
  exact body_mid m c (grid0.coords t0_1) 0 1 (by decide) (by decide) (by decide) (by decide) (by decide) (by decide) _ (fun d => (dats m ρ 0 c).before 4 t0_1 d)
    (owes_in m ρ c t0_1.castSucc _ rfl) (owes_out m ρ c t0_1.succ (futL c (1 + 1)) rfl)
/-- The body at point 2. -/
theorem body_2 (c : Dev nD) : BodyAt m ρ c t0_2 (sl 0 1) := by
  unfold BodyAt
  rw [bigSep_W0, bigSep_W0]
  simp only [before_0, before_1, before_2, before_3]
  rw [show idle0 4 (grid0.coords t0_2) = false by decide]
  exact body_mid m c (grid0.coords t0_2) 1 2 (by decide) (by decide) (by decide) (by decide) (by decide) (by decide) _ (fun d => (dats m ρ 0 c).before 4 t0_2 d)
    (owes_in m ρ c t0_2.castSucc _ rfl) (owes_out m ρ c t0_2.succ (futL c (2 + 1)) rfl)
/-- The body at point 3. -/
theorem body_3 (c : Dev nD) : BodyAt m ρ c t0_3 (sl 1 0) := by
  unfold BodyAt
  rw [bigSep_W0, bigSep_W0]
  simp only [before_0, before_1, before_2, before_3]
  rw [show idle0 4 (grid0.coords t0_3) = false by decide]
  exact body_mid m c (grid0.coords t0_3) 0 3 (by decide) (by decide) (by decide) (by decide) (by decide) (by decide) _ (fun d => (dats m ρ 0 c).before 4 t0_3 d)
    (owes_in m ρ c t0_3.castSucc _ rfl) (owes_out m ρ c t0_3.succ (futL c (3 + 1)) rfl)

/-- The body at point 4. -/
theorem body_4 (c : Dev nD) : BodyAt m ρ c t0_4 (sl 1 1) := by
  unfold BodyAt
  rw [bigSep_W0, bigSep_W0]
  simp only [before_0, before_1, before_2, before_3]
  have hi : idle0 4 (grid0.coords t0_4) = false := by decide
  rw [hi]
  show iprop(iprop(∃ K, ctx (argsOf m) K ∗ Mid (argsOf m) c 4 ∗ Rest c) ∗ _ ∗ iprop(∃ d, ownsTc c xS fullShare (iblk m c 0 t0_4)) ∗ iprop(∃ d, ownsTc c (wS 1) fullShare (iblk m c 1 t0_4))
      ∗ iprop(∃ d, ownsTc c (Memref.whole cc0_stg2_0) fullShare ((argsOf m).sx c)) ∗ iprop(∃ d, ownsTc c (Memref.whole cc0_stg3_0) fullShare ((argsOf m).sw c))
      ∗ iprop(∃ d, ownsTc c (oS 1) fullShare ((dats m ρ 0 c).before 4 t0_4 d))) ⊢ wp _ _ _ (cc0_body (grid0.coords t0_4) xS _ (wS 1) _ (Memref.whole cc0_stg2_0) _ (Memref.whole cc0_stg3_0) _ (oS 1) _
        xM _ rM _ lM _ aM _ cc0_scratch4 cc0_scratch5 cc0_scratch6 cc0_scratch7 cc0_scratch8 cc0_scratch9)
      fun _ => iprop(Done c ∗ _ ∗ ownsTc c xS fullShare (iblk m c 0 t0_4) ∗ ownsTc c (wS 1) fullShare (iblk m c 1 t0_4)
        ∗ ownsTc c (Memref.whole cc0_stg2_0) fullShare ((argsOf m).sx c) ∗ ownsTc c (Memref.whole cc0_stg3_0) fullShare ((argsOf m).sw c) ∗ ownsTc c (oS 1) fullShare (outT (argsOf m) c 3))
  refine BIBase.Entails.trans ?_ (wp_fupd Idealize.ShloMosaic.frame (wpE (defs₀ (F := F)) 𝒱₀ (c : Thread nD τ) none) Set.univ _ _)
  iintro ⟨⟨%K, #HC, HM, HR⟩, HO, ⟨%d0, H0⟩, ⟨%d1, H1⟩, ⟨%d2, H2⟩, ⟨%d3, H3⟩, ⟨%d4, H4⟩⟩
  ihave HO := (owes_in m ρ c t0_4.castSucc [] rfl) $$ HO
  iapply (step_last (argsOf m) c (grid0.coords t0_4) 1 1 (by decide) ((dats m ρ 0 c).before 4 t0_4 d4)) $$ [HM H2 H3 H4]
  · isplitl [H2]; · iexact H2
    isplitl [H3]; · iexact H3
    isplitl [H4]; · iexact H4
    iexact HM
  iintro ⟨H2, H3, H4, HM⟩
  ihave HO := (owes_out m ρ c t0_4.succ [] rfl) $$ HO
  imod (finish (argsOf m) K c) $$ [HM HR] with HD
  · isplitr; · iapply (ctx_inv (argsOf m) K); iexact HC
    isplitl [HM]; · iexact HM
    iexact HR
  imodintro
  isplitl [HD]; · iexact HD
  isplitl [HO]; · iexact HO
  isplitl [H0]; · iexact H0
  isplitl [H1]; · iexact H1
  isplitl [H2]; · iexact H2
  isplitl [H3]; · iexact H3
  iexact H4

/-- The body keeps the pipeline's obligation at every point. -/
theorem body_obligation (c : Dev nD) : BodyObligation (dats m ρ 0 c) (defs₀ (F := F)) 𝒱₀ 0 Set.univ := by
  intro t
  rcases fin_N0 t with rfl | rfl | rfl | rfl | rfl
  · rw [slots_0]; exact body_0 m ρ c
  · rw [slots_1]; exact body_1 m ρ c
  · rw [slots_2]; exact body_2 m ρ c
  · rw [slots_3]; exact body_3 m ρ c
  · rw [slots_4]; exact body_4 m ρ c

end Cert.KernelIdealRun
-- ==== Proof.KernelIdealMain.lean ====
/-
# The run

The pipeline's proof data, the body at each point, and the run of the program with the result's contents.
-/
module

public import proofs.«01_k».proof.Proof.KernelIdealLaunch
public import Idealize.ShloMosaic.Lib.Pipeline.CollectiveSegs

@[expose] public section

set_option maxRecDepth 8000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ
variable (m : (ℓ : Loc nD τ sig) → Buf (Elt F) ℓ) (ρ : Dev nD → PrngReg)

/-! ## The launch -/

/-- Every window's array is held whole. -/
theorem share_eq (c : Dev nD) (w : Fin cfg0.W) : (dats m ρ 0 c).share w = fullShare := by unfold Dat.share; split <;> rfl

omit [FloatOps F] in
/-- All a device owes at the start lies above the pipeline's own semaphores. -/
theorem above_start (c : Dev nD) : ∀ e ∈ lB0 c, Above 0 e :=
  above_cons above_b (above_cons above_b (above_cons above_b (above_cons (above_x (by decide)) (above_cons (above_x (by decide)) (above_cons (above_x (by decide)) (ab0 c (by decide) (by decide)))))))

/-- So does all it owes later. -/
theorem above_owe (c : Dev nD) (n : ℕ) : ∀ e ∈ oweN c n, Above 0 e := by
  unfold oweN
  split
  · exact above_start c
  · exact above_fut (by omega)

/-- A device may wait for its own pipeline's transfers at every point. -/
theorem waits (c : Dev nD) : (levAts L lv : sProp 𝕄) ⊢ Pipeline.cellsWaits cfgs (dats m ρ) 0 0 c :=
  Pipeline.cellsWaits_intro cfgs (dats m ρ) 0 0 c fun w s t =>
    mayWait c _ 0 (by decide) (oweN c t.val) (by
      have h : lv ((c : Thread nD τ), .dma ((cfg0.win w).sem s)) 0 = 0 := by
        show lvS c _ 0 = 0
        unfold lvS
        exact if_pos (by revert s; revert w; decide)
      show ∀ e ∈ _, Above (lv ((c : Thread nD τ), .dma ((cfg0.win w).sem s)) 0) e
      rw [h]; exact above_owe c t.val)

/-- What a device has from the launch. -/
def start (c : Dev nD) : sProp 𝕄 :=
  iprop((∃ K, allInv (argsOf m) K ∗ Lin c) ∗ levAts L lv ∗ Pipeline.launchCred (fun d => oblig (lB0 d)) c)

/-- It, out of what the launch hands over. -/
theorem start_intro (c : Dev nD) :
    iprop(Pipeline.unscopedRestP Pipeline.Prefetch.none cfg0.spec c (fun b => m ((c : Thread nD τ).loc b)) ∗ levAts L lv
        ∗ Pipeline.launchCred (fun d => oblig (lB0 d)) c ∗ prngReg c (ρ c) ∗ G' (argsOf m) c)
      ⊢ |={Set.univ}=> iprop(start m c ∗ emp) := by
  unfold start G'
  iintro ⟨-, Hlev, Hcr, -, HG⟩
  imodintro
  isplitl
  · isplitl [HG]; · iexact HG
    isplitl [Hlev]; · iexact Hlev
    iexact Hcr
  · iempintro

omit [FloatOps F] in
/-- A scratch array whole. -/
theorem whole_in (c : Dev nD) (b : Ref sig .tc) :
    iprop(∃ f : Buf (Elt F) ((c : Thread nD τ).loc b), ((c : Thread nD τ).loc b) ↦{fullShare} f) ⊢ (iprop(∃ X, ownsTc c (Memref.whole b) fullShare X) : sProp 𝕄) := by
  iintro ⟨%f, H⟩
  iexists f
  iapply (BIBase.Entails.of_eq (owns_whole (c : Thread nD τ) b fullShare f).symm); iexact H
omit [FloatOps F] in
/-- And back. -/
theorem whole_out (c : Dev nD) (b : Ref sig .tc) :
    (iprop(∃ X, ownsTc c (Memref.whole b) fullShare X) : sProp 𝕄) ⊢ iprop(∃ f : Buf (Elt F) ((c : Thread nD τ).loc b), ((c : Thread nD τ).loc b) ↦{fullShare} f) := by
  iintro ⟨%f, H⟩
  iexists f
  iapply (BIBase.Entails.of_eq (owns_whole (c : Thread nD τ) b fullShare f)); iexact H

/-- The body's first state. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(∃ K, ctx (argsOf m) K ∗ Start c) from rfl, scopedRest0_eq]
  unfold start
  iintro ⟨⟨⟨%K, HI, HL⟩, Hlev, Hcr⟩, -, H0, H1, H2, H3⟩
  ihave H0 := (whole_in (F := F) c cc0_scratch0) $$ H0
  ihave H1 := (whole_in (F := F) c cc0_scratch1) $$ H1
  ihave H2 := (whole_in (F := F) c cc0_scratch2) $$ H2
  ihave H3 := (whole_in (F := F) c cc0_scratch3) $$ H3
  iexists K
  isplitl [HI Hlev]
  · unfold ctx
    isplitl [HI]; · iexact HI
    iexact Hlev
  iapply (start_of (F := F) c)
  isplitl [HL]; · iexact HL
  isplitl [Hcr]; · iexact Hcr
  isplitl [H0]; · iexact H0
  isplitl [H1]; · iexact H1
  isplitl [H2]; · iexact H2
  iexact H3

/-- The body's last state gives everything back. -/
theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Done c from rfl, scopedRest0_eq]
  unfold Done
  rw [← sems0_eq]
  iintro ⟨⟨H0, H1, H2, H3⟩, HU, HO⟩
  ihave H0 := (whole_out (F := F) c cc0_scratch0) $$ H0
  ihave H1 := (whole_out (F := F) c cc0_scratch1) $$ H1
  ihave H2 := (whole_out (F := F) c cc0_scratch2) $$ H2
  ihave H3 := (whole_out (F := F) c cc0_scratch3) $$ H3
  isplitl [HU]; · iexact HU
  isplitl [HO]; · iexact HO
  isplitl [H0]; · iexact H0
  isplitl [H1]; · iexact H1
  isplitl [H2]; · iexact H2
  iexact H3

/-- From any memory with all counters at zero, every fair execution of the four devices ends, each array then as the windows leave it, and
    all counters at zero. -/
theorem run_main : θ_run defs (onTc (τ := τ) (main (F := F))) (s₀ m ρ) (fun r =>
    (∀ (c : Dev nD) (w : Fin cfg0.W), r.2.mem ((cfg0.win w).arr.view.loc (c : Thread nD τ)) = (dats m ρ 0 c).arrAt w cfg0.N) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => oblig (lB0 d)) (howed₀ := fun _ => rfl) (howedN := fun _ => rfl)
    (L := L) (lv := lv) (hL := fun g hg => if_neg hg) (hwaits := waits m ρ)
    (G := G (argsOf m)) (G' := G' (argsOf m)) (u₀ := u₀)
    (hu₀ := by
      unfold u₀
      iintro Hu
      ihave H := (ownU_pair _ _) $$ Hu
      icases H with ⟨HP, HX⟩
      imod (fund_ring (argsOf m)) $$ HX with HG
      imodintro
      isplitl [HP] <;> iassumption)
    (hglob := glob (argsOf m))
    (hA := fun _ _ => rfl) (hpf := fun _ k => k.elim0)
    (X := start m) (Y := fun c => unscopedSems0 c) (Z := fun _ => iprop(emp))
    (hX := start_intro m ρ) (hin := phi0_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Arguments as they were, counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c 0).trans ((dats m ρ 0 c).arrAt_in 0 rfl _), (h.1 c 1).trans ((dats m ρ 0 c).arrAt_in 1 rfl _),
    (h.1 c 2).trans ((dats m ρ 0 c).arrAt_in 2 rfl _), (h.1 c 3).trans ((dats m ρ 0 c).arrAt_in 3 rfl _)⟩, h.2⟩) (run_main m ρ)

end Cert.KernelIdealRun
-- ==== Proof.KernelIdealValue.lean ====
/-
# What the kernel leaves

A device's result at an index: a row of all the devices' activations times a column of all the devices' weights, and the scales.
-/
module

public import proofs.«01_k».proof.Proof.KernelIdealMain
public import Idealize.ShloMosaic.Lib.MatmulPlain
public import Idealize.ShloMosaic.Lib.Pipeline.Value

@[expose] public section

set_option maxRecDepth 8000

noncomputable section

namespace Cert.KernelIdealRun

open Cert.KernelIdeal Cert.KernelIdeal.Gen

open Idealize.ShloMosaic
open Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## The array, tile by tile -/

/-- The number of the tile a column is in. -/
def tileOf (i : S1024x8192.Idx) : ℕ := (i 1).val / 2048
/-- The index inside the tile. -/
def inTile (i : S1024x8192.Idx) : S1024x2048.Idx := ix2 (⟨(i 0).val, (i 0).isLt⟩ : Fin 1024) (⟨(i 1).val % 2048, Nat.mod_lt _ (by decide)⟩ : Fin 2048)
/-- The result, all its tiles. -/
def resOf (A : Args F) (c : Dev nD) : S1024x8192.Idx → Elt F .f32 := fun i => outT A c (tileOf i) (inTile i)

/-- Where the result's window is at each point, and when it is written back. -/
theorem win4_facts : ∀ t : Fin cfg0.N, win0_4.index t (0 : Fin 2) = 0 ∧ win0_4.index t (1 : Fin 2) = t.val - 1 ∧ ((cfg0.win 4).flush t = true ↔ t.val ≠ 0) :=
  (by decide +kernel : ∀ t : Fin grid0.N, _)
/-- Where the weights' window is. -/
theorem win1_facts : ∀ t : Fin cfg0.N, win0_1.index t (0 : Fin 2) = 0 ∧ win0_1.index t (1 : Fin 2) = min t.val 3 :=
  (by decide +kernel : ∀ t : Fin grid0.N, _)

/-- Row of an index of the result's window. -/
theorem emb4_0 (t : Fin cfg0.N) (y : S1024x2048.Idx) : (((cfg0.win 4).blk t).view.emb y 0).val = (y 0).val := by
  show win0_4.index t (0 : Fin 2) * 1024 + 1 * (y 0).val = _
  rw [(win4_facts t).1]; omega
/-- Column of it. -/
theorem emb4_1 (t : Fin cfg0.N) (y : S1024x2048.Idx) : (((cfg0.win 4).blk t).view.emb y 1).val = (t.val - 1) * 2048 + (y 1).val := by
  show win0_4.index t (1 : Fin 2) * 2048 + 1 * (y 1).val = _
  rw [(win4_facts t).2.1]; omega

/-- After the run a device's result array is the result. -/
theorem arr_eq (c : Dev nD) : (dats m ρ 0 c).arrAt 4 cfg0.N = resOf (argsOf m) c := by
  refine (dats m ρ 0 c).arrAt_eq_of_cover 4 _ (fun t _ => ?_) (fun i => ?_)
  · funext y
    have hy : (y 1).val < 2048 := (y 1).isLt
    show outT (argsOf m) c (t.val - 1) y = resOf (argsOf m) c (((cfg0.win 4).blk t).view.emb y)
    have e : tileOf (((cfg0.win 4).blk t).view.emb y) = t.val - 1 := by
      unfold tileOf; rw [emb4_1]; omega
    have e' : inTile (((cfg0.win 4).blk t).view.emb y) = y := by
      refine Shape.idx_ext₂ ?_ ?_
      · exact emb4_0 t y
      · show (((cfg0.win 4).blk t).view.emb y 1).val % 2048 = _
        rw [emb4_1]; omega
    unfold resOf; rw [e, e']
  · have hi : (i 1).val < 8192 := (i 1).isLt
    have hN : (i 1).val / 2048 + 1 < cfg0.N := by rw [show cfg0.N = 5 from N_0]; omega
    refine ⟨⟨(i 1).val / 2048 + 1, hN⟩, (win4_facts _).2.2.2 (Nat.succ_ne_zero _), ?_⟩
    have e : ((cfg0.win 4).blk ⟨(i 1).val / 2048 + 1, hN⟩).view.emb (inTile i) = i := by
      refine Shape.idx_ext₂ ?_ ?_
      · exact emb4_0 _ _
      · rw [emb4_1]; show ((i 1).val / 2048 + 1 - 1) * 2048 + (i 1).val % 2048 = _; omega
    have h := View.emb_mem_set ((cfg0.win 4).blk ⟨(i 1).val / 2048 + 1, hN⟩).view (inTile i)
    rwa [e] at h

/-- The run, each device's result named and its arguments as they were. -/
theorem run : θ_run (defs (F := F)) (onTc (τ := τ) (main (F := F))) ⟨m, fun _ => 0, ρ⟩ (fun r => ∀ c : Dev nD,
      r.2.mem ((c : Thread nD τ).loc main_v1) = resOf (argsOf m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h.1 c 4).trans (arr_eq m ρ c), (h.1 c 0).trans ((dats m ρ 0 c).arrAt_in 0 rfl _), (h.1 c 1).trans ((dats m ρ 0 c).arrAt_in 1 rfl _),
    (h.1 c 2).trans ((dats m ρ 0 c).arrAt_in 2 rfl _), (h.1 c 3).trans ((dats m ρ 0 c).arrAt_in 3 rfl _)⟩) (run_main m ρ)

/-! ## The operands, read at an index -/

/-- A device's activations. -/
theorem x_apply (c : Dev nD) (i : S4096x1024.Idx) : (argsOf m).x c i = m ((c : Thread nD τ).loc main_arg0) i := by
  refine congrArg (m ((c : Thread nD τ).loc main_arg0)) (Shape.idx_ext₂ ?_ ?_) <;> show 0 * _ + 1 * _ = _ <;> omega
/-- A device's weight tile. -/
theorem w_apply (c : Dev nD) (t : Fin 4) (k : Fin 1024) (q : Fin 2048) (q' : Fin 8192) (h : q'.val = t.val * 2048 + q.val) :
    (argsOf m).w c t.val (ix2 k q) = m ((c : Thread nD τ).loc main_arg1) (ix2 k q') := by
  refine congrArg (m ((c : Thread nD τ).loc main_arg1)) (Shape.idx_ext₂ ?_ ?_)
  · show win0_1.index (pt t.val) (0 : Fin 2) * 1024 + 1 * k.val = k.val
    rw [(win1_facts _).1]; omega
  · show win0_1.index (pt t.val) (1 : Fin 2) * 2048 + 1 * q.val = q'.val
    rw [(win1_facts _).2]; show min (min t.val 4) 3 * 2048 + _ = _; omega
/-- The activations' scale. -/
theorem sx_eq (c : Dev nD) : (argsOf m).sx c = m ((c : Thread nD τ).loc main_arg2) := by
  funext y
  refine congrArg (m ((c : Thread nD τ).loc main_arg2)) (funext fun a => Fin.ext ?_)
  fin_cases a; show 0 * _ + 1 * _ = _; omega
/-- The weights' scale. -/
theorem sw_eq (c : Dev nD) : (argsOf m).sw c = m ((c : Thread nD τ).loc main_arg3) := by
  funext y
  refine congrArg (m ((c : Thread nD τ).loc main_arg3)) (funext fun a => Fin.ext ?_)
  fin_cases a; show 0 * _ + 1 * _ = _; omega

/-! ## The arithmetic, over the reals extended -/

/-- A slot's contents without the axis of extent one. -/
theorem cast_unsq {α : Type} (w : S1024x1024.Idx → α) (h : S1x1024x1024.ShapeCasts S1024x1024) : shapeCast S1024x1024 (unsq w) h = w := by
  funext j
  unfold shapeCast unsq
  exact congrArg w (Equiv.symm_apply_apply _ _)

/-- A product of two tiles at an index. -/
def prod (a b : S1024x1024.Idx → Elt Ideal .fp8e4m3) (r q : Fin 1024) : EReal := ∑ k : Fin 1024, (a (ix2 r k) : EReal) * b (ix2 k q)

/-- The unit's product of two tiles is that. -/
theorem matmul_prod (a b : S1024x1024.Idx → Elt Ideal .fp8e4m3) (r q : Fin 1024) :
    matmul (F := Ideal) (φ₁ := .fp8e4m3) (φ₂ := .fp8e4m3) dot_S1024x1024_S1024x1024_S1024x1024_1_0_0_1_n_n none a b (constant (F := Ideal) S1024x1024 .f32 0x00000000#32) (ix2 r q) = prod a b r q := by
  have h := Ideal.matmul_plain_apply (φ₁ := .fp8e4m3) (φ₂ := .fp8e4m3) none a b (constant (F := Ideal) S1024x1024 .f32 0x00000000#32) r q
  have z : constant (F := Ideal) S1024x1024 .f32 0x00000000#32 (ix2 r q) = (0 : EReal) := Ideal.ofBits_zero_f32
  rw [z, zero_add] at h
  exact h

variable (A : Args Ideal)

/-- The left accumulator at an index. -/
theorem accL_apply (c : Dev nD) (t : ℕ) (r q : Fin 1024) :
    accL A c t (ix2 r q) = (prod (xrow A c c) (wl A c t) r q + prod (xrow A (prv c) c) (wl A (prv c) t) r q + prod (xrow A (opp c) c) (wl A (opp c) t) r q : EReal) := by
  unfold accL k0_pay9 k0_pay7 k0_pay5
  simp only [cast_unsq, shapeCast_self]
  rw [← matmul_prod, ← matmul_prod, ← matmul_prod]
  rfl
/-- The right accumulator. -/
theorem accR_apply (c : Dev nD) (t : ℕ) (r q : Fin 1024) :
    accR A c t (ix2 r q) = (prod (xrow A c c) (wr A c t) r q + prod (xrow A (nxt c) c) (wr A (nxt c) t) r q + prod (xrow A (opp c) c) (wr A (opp c) t) r q : EReal) := by
  unfold accR k0_pay12 k0_pay8 k0_pay6 k0_pay10 k0_pay11
  simp only [cast_unsq, shapeCast_self]
  rw [← matmul_prod, ← matmul_prod, ← matmul_prod]
  rfl
/-- The left half of a result tile. -/
theorem outL_apply (c : Dev nD) (t : ℕ) (r q : Fin 1024) :
    outL A c t (ix2 r q) = ((accL A c t (ix2 r q) + prod (xrow A (nxt c) c) (wl A (nxt c) t) r q) * (A.sx c ix1 * A.sw c ix1) : EReal) := by
  unfold outL k0_pay2
  simp only [cast_unsq]
  rw [← matmul_prod]
  rfl
/-- The right half. -/
theorem outR_apply (c : Dev nD) (t : ℕ) (r q : Fin 1024) :
    outR A c t (ix2 r q) = ((accR A c t (ix2 r q) + prod (xrow A (prv c) c) (wr A (prv c) t) r q) * (A.sx c ix1 * A.sw c ix1) : EReal) := by
  unfold outR k0_pay3
  simp only [cast_unsq]
  rw [← matmul_prod]
  rfl

/-- A sum over the devices, from any of them round one way. -/
theorem sum_left (f : Dev nD → EReal) (c : Dev nD) : f c + f (prv c) + f (opp c) + f (nxt c) = ∑ d, f d := by
  have h : ∑ d, f d = f 0 + f 1 + f 2 + f 3 := Fin.sum_univ_four f
  rw [h]
  fin_cases c
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl
/-- Round the other way. -/
theorem sum_right (f : Dev nD → EReal) (c : Dev nD) : f c + f (nxt c) + f (opp c) + f (prv c) = ∑ d, f d := by
  rw [← sum_left f c]; ac_rfl

/-- One device's share of a result. -/
def share (c : Dev nD) (t : ℕ) (r : Fin 1024) (q : Fin 2048) (d : Dev nD) : EReal := ∑ k : Fin 1024, (xrow A d c (ix2 r k) : EReal) * A.w d t (ix2 k q)

/-- A share in the left half. -/
theorem share_l (c : Dev nD) (t : ℕ) (r q : Fin 1024) (q' : Fin 2048) (h : q'.val = q.val) (d : Dev nD) : prod (xrow A d c) (wl A d t) r q = share A c t r q' d :=
  Finset.sum_congr rfl fun k _ => congrArg (fun z => (xrow A d c (ix2 r k) : EReal) * z) (congrArg (A.w d t) (Shape.idx_ext₂
    (by show 0 + 1 * k.val = k.val; omega) (by show 0 + 1 * q.val = q'.val; omega)))
/-- In the right half. -/
theorem share_r (c : Dev nD) (t : ℕ) (r q : Fin 1024) (q' : Fin 2048) (h : q'.val = 1024 + q.val) (d : Dev nD) : prod (xrow A d c) (wr A d t) r q = share A c t r q' d :=
  Finset.sum_congr rfl fun k _ => congrArg (fun z => (xrow A d c (ix2 r k) : EReal) * z) (congrArg (A.w d t) (Shape.idx_ext₂
    (by show 0 + 1 * k.val = k.val; omega) (by show 1024 + 1 * q.val = q'.val; omega)))

/-- A result tile at an index: the devices' shares and the scales. -/
theorem outT_apply (c : Dev nD) (t : ℕ) (r : Fin 1024) (q : Fin 2048) :
    outT A c t (ix2 r q) = ((∑ d, share A c t r q d) * (A.sx c ix1 * A.sw c ix1) : EReal) := by
  unfold outT joinLR
  by_cases h : q.val < 1024
  · refine (dif_pos h).trans ?_
    have e := outL_apply A c t r ⟨q.val, h⟩
    rw [accL_apply] at e
    simp only [share_l A c t r ⟨q.val, h⟩ q rfl] at e
    rw [sum_left (share A c t r q)] at e
    refine Eq.trans (congrArg (outL A c t) (Shape.idx_ext₂ rfl rfl)) e
  · have h' : q.val - 1024 < 1024 := by have := q.isLt; omega
    refine (dif_neg h).trans ?_
    have e := outR_apply A c t r ⟨q.val - 1024, h'⟩
    rw [accR_apply] at e
    simp only [share_r A c t r ⟨q.val - 1024, h'⟩ q (by show q.val = 1024 + (q.val - 1024); omega)] at e
    rw [sum_right (share A c t r q)] at e
    refine Eq.trans (congrArg (outR A c t) (Shape.idx_ext₂ rfl rfl)) e

end Cert.KernelIdealRun

end
-- ==== Proof.RefValue.lean ====
/-
# What the reference leaves

The reference's result as one function of its arguments, and that function read at an index.
-/
module

public import proofs.«01_k».proof.Proof.Gen.ReferenceIdeal.Value
public import Idealize.ShloMosaic.Lib.MatmulPlain
public import Idealize.ShloMosaic.Lib.VecWindow

@[expose] public section

set_option maxRecDepth 8000

noncomputable section

namespace Cert.ReferenceRun

open Cert.ReferenceIdeal Cert.ReferenceIdeal.Gen
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ) (ρ : Dev nD → PrngReg)

/-- The one index of a scale. -/
abbrev one0 : S1.Idx := Shape.Idx.first (numel1_S1.symm ▸ Nat.one_pos)

/-- The result of the arguments. -/
def refOf (x : Vec F S4096x4096 .fp8e4m3) (w : Vec F S4096x8192 .fp8e4m3) (sx sw : Vec F S1 .f32) : Vec F S4096x8192 .f32 :=
  k0_pay1 x w (sx one0) (sw one0)

/-- Two zeros. -/
theorem zero2 : (![0, 0] : Fin 2 → ℕ) = fun _ => 0 := by funext a; fin_cases a <;> rfl
/-- A scale has one index. -/
theorem idx_S1 (i j : S1.Idx) : i = j := by
  funext a; fin_cases a; apply Fin.ext
  have hi : (i 0).val < 1 := (i 0).isLt
  have hj : (j 0).val < 1 := (j 0).isLt
  show (i 0).val = (j 0).val; omega
/-- What the body leaves in the output's window. -/
theorem out_eq (c : Dev nD) (a0 : Memref sig .tc .vmem S4096x4096 .fp8e4m3) (h0 : a0.IsWhole) (a1 : Memref sig .tc .vmem S4096x8192 .fp8e4m3) (h1 : a1.IsWhole)
    (a2 : Memref sig .tc .smem S1 .f32) (h2 : a2.IsWhole) (a3 : Memref sig .tc .smem S1 .f32) (h3 : a3.IsWhole) (a4 : Memref sig .tc .vmem S4096x8192 .f32) (h4 : a4.IsWhole)
    (x0 : Vec F S4096x4096 .fp8e4m3) (x1 : Vec F S4096x8192 .fp8e4m3) (x2 x3 : Vec F S1 .f32) :
    out0_A_4 c a0 h0 a1 h1 a2 h2 a3 h3 a4 h4 x0 x1 x2 x3 = refOf x0 x1 x2 x3 := by
  unfold out0_A_4 kernelRun0_A
  refine (View.read_writes_full _ _ _ _ _).trans ?_
  sl_unfold_words
  unfold refOf
  simp only [View.readAt_eq_ld, h0.read_unread, h1.read_unread, h2.read_unread, h3.read_unread, View.ld_unit_zero (S := S4096x4096) zero2,
    View.ld_unit_zero (S := S4096x8192) zero2]
  exact congrArg₂ (k0_pay1 x0 x1) (congrArg x2 (idx_S1 _ _)) (congrArg x3 (idx_S1 _ _))

/-- The one point. -/
abbrev p0 : Fin cfg0.N := ⟨0, by decide⟩

/-- The first window is all of the first argument. -/
theorem iblk_0 (c : Dev nD) (t : Fin cfg0.N) : iblk m c 0 t = m ((c : Thread nD τ).loc main_arg0) := by
  funext y
  refine congrArg (m ((c : Thread nD τ).loc main_arg0)) (Shape.idx_ext₂ ?_ ?_) <;> show 0 * _ + 1 * _ = _ <;> omega
/-- The second is all of the second. -/
theorem iblk_1 (c : Dev nD) (t : Fin cfg0.N) : iblk m c 1 t = m ((c : Thread nD τ).loc main_arg1) := by
  funext y
  refine congrArg (m ((c : Thread nD τ).loc main_arg1)) (Shape.idx_ext₂ ?_ ?_) <;> show 0 * _ + 1 * _ = _ <;> omega
/-- A scale's window is the scale. -/
theorem iblk_2 (c : Dev nD) (t : Fin cfg0.N) : iblk m c 2 t = m ((c : Thread nD τ).loc main_arg2) := by
  funext y
  refine congrArg (m ((c : Thread nD τ).loc main_arg2)) (funext fun a => Fin.ext ?_)
  fin_cases a; show 0 * _ + 1 * _ = _; omega
/-- So is the other's. -/
theorem iblk_3 (c : Dev nD) (t : Fin cfg0.N) : iblk m c 3 t = m ((c : Thread nD τ).loc main_arg3) := by
  funext y
  refine congrArg (m ((c : Thread nD τ).loc main_arg3)) (funext fun a => Fin.ext ?_)
  fin_cases a; show 0 * _ + 1 * _ = _; omega
/-- An index of the output's window is that index of its array. -/
theorem emb_4 (t : Fin cfg0.N) (y : S4096x8192.Idx) : ((cfg0.win 4).blk t).view.emb y = y :=
  Shape.idx_ext₂ (by show 0 * _ + 1 * _ = _; omega) (by show 0 * _ + 1 * _ = _; omega)

/-- The output array, once the run is over. -/
theorem arr_eq (c : Dev nD) : (dats m 0 c).arrAt 4 cfg0.N
    = refOf (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t _ => ?_) (fun i => ⟨p0, rfl, ?_⟩)
  · rw [Cert.ReferenceIdeal.Value.flushed4_A, out_eq, iblk_0, iblk_1, iblk_2, iblk_3]
    funext y
    exact congrArg (refOf _ _ _ _) (emb_4 t y).symm
  · have h := View.emb_mem_set ((cfg0.win 4).blk p0).view i
    rwa [emb_4] at h

/-- The run of the reference, its result a function of the arguments. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c : Thread nD τ).loc main_v0) = refOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  have h := Cert.ReferenceIdeal.Value.run_blocks m ρ
  simp only [arr_eq] at h
  exact h

/-- At an index, over the reals extended: a row of the one times a column of the other, and the scales. -/
theorem refOf_apply (x : Vec Ideal S4096x4096 .fp8e4m3) (w : Vec Ideal S4096x8192 .fp8e4m3) (sx sw : Vec Ideal S1 .f32) (r : Fin 4096) (q : Fin 8192) :
    refOf x w sx sw (ix2 r q) = (∑ k : Fin 4096, (x (ix2 r k) : EReal) * w (ix2 k q)) * (sx one0 * sw one0 : EReal) := by
  have h := Ideal.matmul_plain_apply (φ₁ := .fp8e4m3) (φ₂ := .fp8e4m3) none x w (constant (F := Ideal) S4096x8192 .f32 0x00000000#32) r q
  have z : constant (F := Ideal) S4096x8192 .f32 0x00000000#32 (ix2 r q) = (0 : EReal) := Ideal.ofBits_zero_f32
  rw [z, zero_add] at h
  exact congrArg (· * (sx one0 * sw one0 : EReal)) h

end Cert.ReferenceRun

end
-- ==== Proof.Equal.lean ====
/-
# The kernel and the reference leave the same

Each device's result is its block of rows of the reference's: the reference's sum over all columns is the devices' sums, one after another.
-/
module

public import proofs.«01_k».proof.Proof.KernelIdealValue
public import proofs.«01_k».proof.Proof.RefValue
public import proofs.«01_k».proof.Defs

@[expose] public section

set_option maxRecDepth 8000

noncomputable section

namespace Cert.Equal

open Idealize.ShloMosaic
open Idealize.ShloMosaic.TcCoe Idealize.ShloMosaic.ValueIdx
open Idealize.SL.Sem
open Cert.KernelIdealRun (argsOf resOf share outT_apply tileOf inTile xrow ix1)
open Cert.ReferenceRun (refOf refOf_apply one0)

/-- Place `k` of the share of device `d`. -/
def col (d : Fin 4) (k : Fin 1024) : Fin 4096 := ⟨d.val * 1024 + k.val, by omega⟩

/-- A sum over all columns is the devices' sums. -/
theorem sum_cols (f : Fin 4096 → EReal) : ∑ k, f k = ∑ d : Fin 4, ∑ k : Fin 1024, f (col d k) := by
  rw [← Equiv.sum_comp (finProdFinEquiv (m := 4) (n := 1024)) f, Fintype.sum_prod_type]
  refine Finset.sum_congr rfl fun d _ => Finset.sum_congr rfl fun k _ => congrArg f (Fin.ext ?_)
  show k.val + 1024 * d.val = d.val * 1024 + k.val
  omega

variable (m : (ℓ : Loc Cert.KernelIdeal.nD Cert.KernelIdeal.τ Cert.KernelIdeal.sig) → Buf (Elt Ideal) ℓ)

/-- If each device holds its columns of the activations, its rows of the weights and the scales, it ends with its rows of the reference's
    result. -/
theorem res_eq (x : Cert.ReferenceIdeal.S4096x4096.Idx → Elt Ideal .fp8e4m3) (w : Cert.ReferenceIdeal.S4096x8192.Idx → Elt Ideal .fp8e4m3) (sx sw : Cert.ReferenceIdeal.S1.Idx → Elt Ideal .f32)
    (hx : ∀ c : Dev Cert.KernelIdeal.nD, m ((c : Thread Cert.KernelIdeal.nD Cert.KernelIdeal.τ).loc Cert.KernelIdeal.main_arg0) = Layout.block ⟨2, ![4096, 1024]⟩ ⟨2, ![4096, 4096]⟩ 1 4 c x)
    (hw : ∀ c : Dev Cert.KernelIdeal.nD, m ((c : Thread Cert.KernelIdeal.nD Cert.KernelIdeal.τ).loc Cert.KernelIdeal.main_arg1) = Layout.block ⟨2, ![1024, 8192]⟩ ⟨2, ![4096, 8192]⟩ 0 4 c w)
    (hsx : ∀ c : Dev Cert.KernelIdeal.nD, m ((c : Thread Cert.KernelIdeal.nD Cert.KernelIdeal.τ).loc Cert.KernelIdeal.main_arg2) = sx)
    (hsw : ∀ c : Dev Cert.KernelIdeal.nD, m ((c : Thread Cert.KernelIdeal.nD Cert.KernelIdeal.τ).loc Cert.KernelIdeal.main_arg3) = sw)
    (c : Dev Cert.KernelIdeal.nD) :
    resOf (argsOf m) c = Layout.block ⟨2, ![1024, 8192]⟩ ⟨2, ![4096, 8192]⟩ 0 4 c (refOf x w sx sw) := by
  funext i
  have hi0 : (i 0).val < 1024 := (i 0).isLt
  have hi1 : (i 1).val < 8192 := (i 1).isLt
  have hc : c.val < 4 := c.isLt
  let r : Fin 1024 := ⟨(i 0).val, hi0⟩
  let q : Fin 2048 := ⟨(i 1).val % 2048, Nat.mod_lt _ (by decide)⟩
  let t : Fin 4 := ⟨(i 1).val / 2048, by omega⟩
  let R : Fin 4096 := ⟨c.val * 1024 + (i 0).val, by omega⟩
  let Q : Fin 8192 := ⟨(i 1).val, hi1⟩
  have hR : (Layout.block ⟨2, ![1024, 8192]⟩ ⟨2, ![4096, 8192]⟩ 0 4 c (refOf x w sx sw)) i = refOf x w sx sw (ix2 R Q) :=
    congrArg (refOf x w sx sw) (Shape.idx_ext₂ rfl rfl)
  rw [hR, refOf_apply, sum_cols]
  refine (outT_apply (argsOf m) c t.val r q).trans ?_
  rw [Cert.KernelIdealRun.sx_eq, Cert.KernelIdealRun.sw_eq, hsx, hsw]
  refine congrArg₂ (fun a b : EReal => a * b) (Finset.sum_congr rfl fun d _ => Finset.sum_congr rfl fun k _ => ?_) rfl
  refine congrArg₂ (fun a b : EReal => a * b) ?_ ?_
  · refine (Cert.KernelIdealRun.x_apply m d _).trans ?_
    rw [hx]
    refine congrArg x (Shape.idx_ext₂ ?_ ?_)
    · show 1024 * c.val + 1 * (i 0).val = c.val * 1024 + (i 0).val; omega
    · show d.val * 1024 + (0 + 1 * k.val) = d.val * 1024 + k.val; omega
  · refine (Cert.KernelIdealRun.w_apply m d t k q Q (by show (i 1).val = (i 1).val / 2048 * 2048 + (i 1).val % 2048; omega)).trans ?_
    rw [hw]
    exact congrArg w (Shape.idx_ext₂ rfl rfl)

/-- Over the reals extended, the kernel's four results are the blocks of rows of the reference's. -/
theorem algebraic : Cert.algebraic_KernelIdeal_ReferenceIdeal (hKernelIdeal := Cert.KernelIdeal.Gen.facts) (hReferenceIdeal := Cert.ReferenceIdeal.Gen.facts) := by
  intro m g m' g' _ h
  let z : Thread Cert.ReferenceIdeal.nD Cert.ReferenceIdeal.τ := ((0 : Dev Cert.ReferenceIdeal.nD) : Thread Cert.ReferenceIdeal.nD Cert.ReferenceIdeal.τ)
  refine ⟨refOf (m' (z.loc Cert.ReferenceIdeal.main_arg0)) (m' (z.loc Cert.ReferenceIdeal.main_arg1)) (m' (z.loc Cert.ReferenceIdeal.main_arg2)) (m' (z.loc Cert.ReferenceIdeal.main_arg3)), ?_, ?_⟩
  · refine (θ_run _ _ _).mono (fun r hr c => ?_) (Cert.KernelIdealRun.run m g)
    obtain ⟨h1, h2⟩ := hr c
    exact ⟨h1.trans (res_eq m _ _ _ _ (fun c => (h c).1) (fun c => (h c).2.1) (fun c => (h c).2.2.1) (fun c => (h c).2.2.2) c), h2⟩
  · exact (θ_run _ _ _).mono (fun r hr => hr 0) (Cert.ReferenceRun.run m' g')

end Cert.Equal

end
-- ==== Proof.lean ====
/- The assembly: the frames of the three programs, the idealization, and its equality with the reference. -/
module

public import proofs.«01_k».proof.Defs
public import proofs.«01_k».proof.Proof.KernelMain
public import proofs.«01_k».proof.Proof.KernelIdealMain
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- The kernel, its idealization and the reference run, leave their arguments and all counters as they were, the idealization is the kernel, and
    over the reals extended its results are the reference's, block by block. -/
theorem claim : Cert.Claim := ⟨Cert.Kernel.Gen.facts, Cert.KernelIdeal.Gen.facts, Cert.ReferenceIdeal.Gen.facts,
  fun m ρ _ => Cert.KernelRun.frame m ρ, fun m ρ _ => Cert.KernelIdealRun.frame m ρ, fun m ρ _ => Cert.ReferenceIdeal.Gen.frame m ρ, trivial, Cert.Equal.algebraic⟩

end Cert.Proof

end
